-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_segments_binary [hPre_segments_binary : Cert.Pre_segments_binary.Facts] (m : (ℓ : Loc Cert.KernelIdeal.nD Cert.KernelIdeal.τ Cert.KernelIdeal.sig) → Buf (Elt Ideal) ℓ) : Prop :=
  ∀ c : Dev Cert.KernelIdeal.nD,
    (Cert.Pre_segments_binary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_segments_binary [hPre_segments_binary : Cert.Pre_segments_binary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_segments_binary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_segments_binary [hKernelIdeal : Cert.KernelIdeal.Facts] [hPre_segments_binary : Cert.Pre_segments_binary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_segments_binary m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_segments_binary [hReferenceIdeal : Cert.ReferenceIdeal.Facts] [hPre_segments_binary : Cert.Pre_segments_binary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_segments_binary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_segments_binary [hKernelIdeal : Cert.KernelIdeal.Facts] [hReferenceIdeal : Cert.ReferenceIdeal.Facts] [hPre_segments_binary : Cert.Pre_segments_binary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_segments_binary m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_segments_binary : Cert.Pre_segments_binary.Facts),
    quiescent_Kernel (hKernel := hKernel)
    ∧ quiescent_KernelIdeal (hKernelIdeal := hKernelIdeal)
    ∧ quiescent_KernelIdeal_pre_segments_binary (hKernelIdeal := hKernelIdeal) (hPre_segments_binary := hPre_segments_binary)
    ∧ quiescent_ReferenceIdeal (hReferenceIdeal := hReferenceIdeal)
    ∧ quiescent_ReferenceIdeal_pre_segments_binary (hReferenceIdeal := hReferenceIdeal) (hPre_segments_binary := hPre_segments_binary)
    ∧ preserves_Kernel_KernelIdeal
    ∧ algebraic_KernelIdeal_ReferenceIdeal_pre_segments_binary (hKernelIdeal := hKernelIdeal) (hReferenceIdeal := hReferenceIdeal) (hPre_segments_binary := hPre_segments_binary)
-- ==== Pre_segments_binary.lean ====
abbrev S16x512x1024 : Shape := ⟨3, ![16, 512, 1024]⟩
abbrev S16x64x512 : Shape := ⟨3, ![16, 64, 512]⟩
abbrev S16 : Shape := ⟨1, ![16]⟩
abbrev S1536x1024 : Shape := ⟨2, ![1536, 1024]⟩
abbrev S1536x512 : Shape := ⟨2, ![1536, 512]⟩
abbrev S1536 : Shape := ⟨1, ![1536]⟩
abbrev S_ : Shape := ⟨0, ![]⟩

class Facts : Prop where
  bcast_S_S16x64x512 : S_.BroadcastsInDim S16x64x512 (![] : Fin 0 → Fin S16x64x512.rank)

variable [Facts]

def fn {F : FTy → Type} [FloatOps F] (main_arg0 : FVec F S16x512x1024 .f32) (main_arg1 : IVec S16x64x512 32) (main_arg2 : IVec S16 32) (main_arg3 : FVec F S1536x1024 .f32) (main_arg4 : FVec F S1536x512 .f32) (main_arg5 : FVec F S1536 .f32) (main_arg6 : FVec F S1536 .f32) : IVec S16x64x512 1 :=
  let main_c : IVec S_ 32 := constantI S_ 32 0#32
  let main_v0 : IVec S16x64x512 32 := broadcastInDim S16x64x512 ![] bcast_S_S16x64x512 main_c
  let main_v1 : IVec S16x64x512 1 := cmpi .sge main_arg1 main_v0
  let main_c_0 : IVec S_ 32 := constantI S_ 32 1#32
  let main_v2 : IVec S16x64x512 32 := broadcastInDim S16x64x512 ![] bcast_S_S16x64x512 main_c_0
  let main_v3 : IVec S16x64x512 1 := cmpi .sle main_arg1 main_v2
  let main_v4 : IVec S16x64x512 1 := andi main_v1 main_v3
  main_v4
-- ==== Kernel.lean ====
abbrev S16x512x1024 : Shape := ⟨3, ![16, 512, 1024]⟩
abbrev S16x64x512 : Shape := ⟨3, ![16, 64, 512]⟩
abbrev S16 : Shape := ⟨1, ![16]⟩
abbrev S1536x1024 : Shape := ⟨2, ![1536, 1024]⟩
abbrev S1536x512 : Shape := ⟨2, ![1536, 512]⟩
abbrev S1536 : Shape := ⟨1, ![1536]⟩
abbrev S1x1536 : Shape := ⟨2, ![1, 1536]⟩
abbrev S16x1 : Shape := ⟨2, ![16, 1]⟩
abbrev S8x64x512 : Shape := ⟨3, ![8, 64, 512]⟩
abbrev S8x512x1024 : Shape := ⟨3, ![8, 512, 1024]⟩
abbrev S16x64x1536 : Shape := ⟨3, ![16, 64, 1536]⟩
abbrev S16x512 : Shape := ⟨2, ![16, 512]⟩
abbrev S1x64x512 : Shape := ⟨3, ![1, 64, 512]⟩
abbrev S64x512 : Shape := ⟨2, ![64, 512]⟩
abbrev S1x512x1024 : Shape := ⟨3, ![1, 512, 1024]⟩
abbrev S512x1024 : Shape := ⟨2, ![512, 1024]⟩
abbrev S64x1024 : Shape := ⟨2, ![64, 1024]⟩
abbrev S64 : Shape := ⟨1, ![64]⟩
abbrev S64x1 : Shape := ⟨2, ![64, 1]⟩
abbrev S512x1536 : Shape := ⟨2, ![512, 1536]⟩
abbrev S8x64x1536 : Shape := ⟨3, ![8, 64, 1536]⟩
abbrev S16x1x1536 : Shape := ⟨3, ![16, 1, 1536]⟩
abbrev S16x1536 : Shape := ⟨2, ![16, 1536]⟩
abbrev S16x1x512 : Shape := ⟨3, ![16, 1, 512]⟩

abbrev nBuf : Space → Nat
  | .hbm => 13
  | .vmem => 12
  | .smem => 0
  | _ => 0

abbrev bufTy : (tb : Table) → Fin (tcTables nBuf tb) → BufTy
  | .hbm, ⟨0, _⟩ => ⟨S16x512x1024, .f32⟩
  | .hbm, ⟨1, _⟩ => ⟨S16x64x512, .i32⟩
  | .hbm, ⟨2, _⟩ => ⟨S16, .i32⟩
  | .hbm, ⟨3, _⟩ => ⟨S1536x1024, .f32⟩
  | .hbm, ⟨4, _⟩ => ⟨S1536x512, .f32⟩
  | .hbm, ⟨5, _⟩ => ⟨S1536, .f32⟩
  | .hbm, ⟨6, _⟩ => ⟨S1536, .f32⟩
  | .hbm, ⟨7, _⟩ => ⟨S1536x1024, .bf16⟩
  | .hbm, ⟨8, _⟩ => ⟨S1536x512, .bf16⟩
  | .hbm, ⟨9, _⟩ => ⟨S1x1536, .f32⟩
  | .hbm, ⟨10, _⟩ => ⟨S1x1536, .f32⟩
  | .hbm, ⟨11, _⟩ => ⟨S16x1, .i32⟩
  | .hbm, ⟨12, _⟩ => ⟨S16x64x512, .f32⟩
  | .local _ .vmem, ⟨0, _⟩ => ⟨S8x64x512, .i32⟩
  | .local _ .vmem, ⟨1, _⟩ => ⟨S8x64x512, .i32⟩
  | .local _ .vmem, ⟨2, _⟩ => ⟨S8x512x1024, .f32⟩
  | .local _ .vmem, ⟨3, _⟩ => ⟨S8x512x1024, .f32⟩
  | .local _ .vmem, ⟨4, _⟩ => ⟨S1536x1024, .bf16⟩
  | .local _ .vmem, ⟨5, _⟩ => ⟨S1536x512, .bf16⟩
  | .local _ .vmem, ⟨6, _⟩ => ⟨S1x1536, .f32⟩
  | .local _ .vmem, ⟨7, _⟩ => ⟨S1x1536, .f32⟩
  | .local _ .vmem, ⟨8, _⟩ => ⟨S16x1, .i32⟩
  | .local _ .vmem, ⟨9, _⟩ => ⟨S16x64x512, .f32⟩
  | .local _ .vmem, ⟨10, _⟩ => ⟨S16x64x1536, .f32⟩
  | .local _ .vmem, ⟨11, _⟩ => ⟨S16x512, .f32⟩
  | _, _ => ⟨S16x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9

abbrev nD : Nat := 1
abbrev τ : Topo := Topo.v7x

variable {F : FTy → Type} [FloatOps F]

abbrev grid0 : Pipeline.Grid := ⟨1, ![18], ![false]⟩

def k0_cond1 (i : grid0.Coords) : BitVec 1 :=
  let arg0 : BitVec 32 := BitVec.ofNat 32 (i 0).val
  let c2_i32 : BitVec 32 := 2#32
  let v0 : BitVec 1 := Scalar.cmpi .slt arg0 c2_i32
  let v1 : BitVec 32 := Scalar.extui v0
  let c0_i32 : BitVec 32 := 0#32
  let v2 : BitVec 1 := Scalar.cmpi .ne v1 c0_i32
  v2

def k0_off1 (i : grid0.Coords) : Fin 3 → Nat :=
  let arg0 : BitVec 32 := BitVec.ofNat 32 (i 0).val
  let c8_i32 : BitVec 32 := 8#32
  let v147 : BitVec 32 := Scalar.muli arg0 c8_i32
  let v148 : Index := Scalar.indexCast v147
  let c0_80 : Index := 0#32
  let c0_81 : Index := 0#32
  ![v148.toNat, 0, 0]
def k0_cond3 (i : grid0.Coords) : BitVec 1 :=
  let arg0 : BitVec 32 := BitVec.ofNat 32 (i 0).val
  let c2_i32_2 : BitVec 32 := 2#32
  let v6 : BitVec 1 := Scalar.cmpi .sge arg0 c2_i32_2
  let v7 : BitVec 32 := Scalar.extui v6
  let c0_i32_3 : BitVec 32 := 0#32
  let v8 : BitVec 1 := Scalar.cmpi .ne v7 c0_i32_3
  v8

def k0_off2 (i : grid0.Coords) (c0_i32_6 : BitVec 32) : Fin 3 → Nat :=
  let c0_7 : Index := 0#32
  let arg0 : BitVec 32 := BitVec.ofNat 32 (i 0).val
  let c2_i32_5 : BitVec 32 := 2#32
  let v10 : BitVec 32 := Scalar.subi arg0 c2_i32_5
  let c4_i32 : BitVec 32 := 4#32
  let v11 : BitVec 32 := Scalar.muli v10 c4_i32
  let v12 : BitVec 32 := Scalar.addi v11 c0_i32_6
  let v13 : Index := Scalar.indexCast v12
  let c0_8 : Index := 0#32
  ![0, v13.toNat, 0]
def k0_off3 (i : grid0.Coords) (c0_i32_6 : BitVec 32) : Fin 3 → Nat :=
  let c0_17 : Index := 0#32
  let arg0 : BitVec 32 := BitVec.ofNat 32 (i 0).val
  let c2_i32_5 : BitVec 32 := 2#32
  let v10 : BitVec 32 := Scalar.subi arg0 c2_i32_5
  let c4_i32 : BitVec 32 := 4#32
  let v11 : BitVec 32 := Scalar.muli v10 c4_i32
  let v12 : BitVec 32 := Scalar.addi v11 c0_i32_6
  let v50 : Index := Scalar.indexCast v12
  let c0_18 : Index := 0#32
  ![0, v50.toNat, 0]
def cc0_transform_0 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S8x64x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1536x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S16x512x1024 : Shape := ⟨3, ![16, 512, 1024]⟩
abbrev S16x64x512 : Shape := ⟨3, ![16, 64, 512]⟩
abbrev S16 : Shape := ⟨1, ![16]⟩
abbrev S1536x1024 : Shape := ⟨2, ![1536, 1024]⟩
abbrev S1536x512 : Shape := ⟨2, ![1536, 512]⟩
abbrev S1536 : Shape := ⟨1, ![1536]⟩
abbrev S_ : Shape := ⟨0, ![]⟩
abbrev S16x64 : Shape := ⟨2, ![16, 64]⟩
abbrev S16x64x1 : Shape := ⟨3, ![16, 64, 1]⟩
abbrev S16x64x1024 : Shape := ⟨3, ![16, 64, 1024]⟩
abbrev S16x512 : Shape := ⟨2, ![16, 512]⟩
abbrev S64x16x1024 : Shape := ⟨3, ![64, 16, 1024]⟩
abbrev S64 : Shape := ⟨1, ![64]⟩
abbrev S64x16x512 : Shape := ⟨3, ![64, 16, 512]⟩
abbrev S1x16x1024 : Shape := ⟨3, ![1, 16, 1024]⟩
abbrev S16x1024 : Shape := ⟨2, ![16, 1024]⟩
abbrev S1 : Shape := ⟨1, ![1]⟩
abbrev S1024x1536 : Shape := ⟨2, ![1024, 1536]⟩
abbrev S16x1536 : Shape := ⟨2, ![16, 1536]⟩
abbrev S1x1536 : Shape := ⟨2, ![1, 1536]⟩
abbrev S512x1536 : Shape := ⟨2, ![512, 1536]⟩
abbrev S16x1 : Shape := ⟨2, ![16, 1]⟩
abbrev S1x16x512 : Shape := ⟨3, ![1, 16, 512]⟩

abbrev nBuf : Space → Nat
  | .hbm => 101
  | .vmem => 0
  | .smem => 0
  | _ => 0

abbrev bufTy : (tb : Table) → Fin (tcTables nBuf tb) → BufTy
  | .hbm, ⟨0, _⟩ => ⟨S16x512x1024, .f32⟩
  | .hbm, ⟨1, _⟩ => ⟨S16x64x512, .i32⟩
  | .hbm, ⟨2, _⟩ => ⟨S16, .i32⟩
  | .hbm, ⟨3, _⟩ => ⟨S1536x1024, .f32⟩
  | .hbm, ⟨4, _⟩ => ⟨S1536x512, .f32⟩
  | .hbm, ⟨5, _⟩ => ⟨S1536, .f32⟩
  | .hbm, ⟨6, _⟩ => ⟨S1536, .f32⟩
  | .hbm, ⟨7, _⟩ => ⟨S16x64x512, .f32⟩
  | .hbm, ⟨8, _⟩ => ⟨S_, .f32⟩
  | .hbm, ⟨9, _⟩ => ⟨S16x64, .f32⟩
  | .hbm, ⟨10, _⟩ => ⟨S16x64x1, .f32⟩
  | .hbm, ⟨11, _⟩ => ⟨S_, .f32⟩
  | .hbm, ⟨12, _⟩ => ⟨S16x64x1, .f32⟩
  | .hbm, ⟨13, _⟩ => ⟨S16x64x1, .f32⟩
  | .hbm, ⟨14, _⟩ => ⟨S16x64x512, .f32⟩
  | .hbm, ⟨15, _⟩ => ⟨S16x64x512, .f32⟩
  | .hbm, ⟨16, _⟩ => ⟨S16x64x1024, .f32⟩
  | .hbm, ⟨17, _⟩ => ⟨S_, .f32⟩
  | .hbm, ⟨18, _⟩ => ⟨S16x512, .f32⟩
  | .hbm, ⟨19, _⟩ => ⟨S64x16x1024, .f32⟩
  | .hbm, ⟨20, _⟩ => ⟨S64, .i32⟩
  | .hbm, ⟨21, _⟩ => ⟨S_, .f32⟩
  | .hbm, ⟨22, _⟩ => ⟨S64x16x512, .f32⟩
  | .hbm, ⟨23, _⟩ => ⟨S_, .i32⟩
  | .hbm, ⟨24, _⟩ => ⟨S64x16x1024, .f32⟩
  | .hbm, ⟨25, _⟩ => ⟨S64, .i32⟩
  | .hbm, ⟨26, _⟩ => ⟨S1536x1024, .f32⟩
  | .hbm, ⟨27, _⟩ => ⟨S1536, .f32⟩
  | .hbm, ⟨28, _⟩ => ⟨S1536x512, .f32⟩
  | .hbm, ⟨29, _⟩ => ⟨S1536, .f32⟩
  | .hbm, ⟨30, _⟩ => ⟨S16, .i32⟩
  | .hbm, ⟨31, _⟩ => ⟨S_, .i32⟩
  | .hbm, ⟨32, _⟩ => ⟨S16x512, .f32⟩
  | .hbm, ⟨33, _⟩ => ⟨S64x16x512, .f32⟩
  | .hbm, ⟨34, _⟩ => ⟨S_, .i32⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S1x16x1024, .f32⟩
  | .hbm, ⟨39, _⟩ => ⟨S16x1024, .f32⟩
  | .hbm, ⟨40, _⟩ => ⟨S1, .i32⟩
  | .hbm, ⟨41, _⟩ => ⟨S_, .i32⟩
  | .hbm, ⟨42, _⟩ => ⟨S1024x1536, .f32⟩
  | .hbm, ⟨43, _⟩ => ⟨S16x1536, .f32⟩
  | .hbm, ⟨44, _⟩ => ⟨S1x1536, .f32⟩
  | .hbm, ⟨45, _⟩ => ⟨S16x1536, .f32⟩
  | .hbm, ⟨46, _⟩ => ⟨S16x1536, .f32⟩
  | .hbm, ⟨47, _⟩ => ⟨S512x1536, .f32⟩
  | .hbm, ⟨48, _⟩ => ⟨S16x1536, .f32⟩
  | .hbm, ⟨49, _⟩ => ⟨S1x1536, .f32⟩
  | .hbm, ⟨50, _⟩ => ⟨S16x1536, .f32⟩
  | .hbm, ⟨51, _⟩ => ⟨S16x1536, .f32⟩
  | .hbm, ⟨52, _⟩ => ⟨S16x512, .f32⟩
  | .hbm, ⟨53, _⟩ => ⟨S16x512, .f32⟩
  | .hbm, ⟨54, _⟩ => ⟨S16x512, .f32⟩
  | .hbm, ⟨55, _⟩ => ⟨S16x512, .f32⟩
  | .hbm, ⟨56, _⟩ => ⟨S16x512, .f32⟩
  | .hbm, ⟨57, _⟩ => ⟨S16x512, .f32⟩
  | .hbm, ⟨58, _⟩ => ⟨S16x512, .f32⟩
  | .hbm, ⟨59, _⟩ => ⟨S16x512, .f32⟩
  | .hbm, ⟨60, _⟩ => ⟨S16x512, .f32⟩
  | .hbm, ⟨61, _⟩ => ⟨S_, .f32⟩
  | .hbm, ⟨62, _⟩ => ⟨S16x512, .f32⟩
  | .hbm, ⟨63, _⟩ => ⟨S16x512, .f32⟩
  | .hbm, ⟨64, _⟩ => ⟨S_, .f32⟩
  | .hbm, ⟨65, _⟩ => ⟨S16x512, .f32⟩
  | .hbm, ⟨66, _⟩ => ⟨S16x512, .f32⟩
  | .hbm, ⟨67, _⟩ => ⟨S16x512, .f32⟩
  | .hbm, ⟨68, _⟩ => ⟨S16x512, .f32⟩
  | .hbm, ⟨69, _⟩ => ⟨S16x512, .f32⟩
  | .hbm, ⟨70, _⟩ => ⟨S_, .f32⟩
  | .hbm, ⟨71, _⟩ => ⟨S16x512, .f32⟩
  | .hbm, ⟨72, _⟩ => ⟨S16x512, .f32⟩
  | .hbm, ⟨73, _⟩ => ⟨S_, .f32⟩
  | .hbm, ⟨74, _⟩ => ⟨S16x512, .f32⟩
  | .hbm, ⟨75, _⟩ => ⟨S16x512, .f32⟩
  | .hbm, ⟨76, _⟩ => ⟨S16x512, .f32⟩
  | .hbm, ⟨77, _⟩ => ⟨S16x512, .f32⟩
  | .hbm, ⟨78, _⟩ => ⟨S16x512, .f32⟩
  | .hbm, ⟨79, _⟩ => ⟨S_, .f32⟩
  | .hbm, ⟨80, _⟩ => ⟨S16x512, .f32⟩
  | .hbm, ⟨81, _⟩ => ⟨S16x512, .f32⟩
  | .hbm, ⟨82, _⟩ => ⟨S16x512, .f32⟩
  | .hbm, ⟨83, _⟩ => ⟨S16x512, .f32⟩
  | .hbm, ⟨84, _⟩ => ⟨S16x512, .f32⟩
  | .hbm, ⟨85, _⟩ => ⟨S16, .i32⟩
  | .hbm, ⟨86, _⟩ => ⟨S16, .i1⟩
  | .hbm, ⟨87, _⟩ => ⟨S16x1, .i1⟩
  | .hbm, ⟨88, _⟩ => ⟨S16x512, .i1⟩
  | .hbm, ⟨89, _⟩ => ⟨S16x512, .f32⟩
  | .hbm, ⟨90, _⟩ => ⟨S_, .f32⟩
  | .hbm, ⟨91, _⟩ => ⟨S16x512, .f32⟩
  | .hbm, ⟨92, _⟩ => ⟨S16x512, .i1⟩
  | .hbm, ⟨93, _⟩ => ⟨S16x512, .f32⟩
  | .hbm, ⟨94, _⟩ => ⟨S1x16x512, .f32⟩
  | .hbm, ⟨95, _⟩ => ⟨S_, .i32⟩
  | .hbm, ⟨96, _⟩ => ⟨S_, .i32⟩
  | .hbm, ⟨97, _⟩ => ⟨S64x16x512, .f32⟩
  | .hbm, ⟨98, _⟩ => ⟨S_, .i32⟩
  | .hbm, ⟨99, _⟩ => ⟨S_, .i32⟩
  | .hbm, ⟨100, _⟩ => ⟨S16x64x512, .f32⟩
  | _, _ => ⟨S16x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_c : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev main_v12_3 : Ref sig .tc := ⟨.hbm, 27, rfl⟩
abbrev main_v12_4 : Ref sig .tc := ⟨.hbm, 28, rfl⟩
abbrev main_v12_5 : Ref sig .tc := ⟨.hbm, 29, rfl⟩
abbrev main_v12_6 : Ref sig .tc := ⟨.hbm, 30, rfl⟩
abbrev main_v12_7 : Ref sig .tc := ⟨.hbm, 31, rfl⟩
abbrev main_v12_8 : Ref sig .tc := ⟨.hbm, 32, rfl⟩
abbrev main_v12_9 : Ref sig .tc := ⟨.hbm, 33, rfl⟩
abbrev main_while0c_c_12 : Ref sig .tc := ⟨.hbm, 34, rfl⟩
abbrev main_while0c_v14 : Ref sig .tc := ⟨.hbm, 35, rfl⟩
abbrev main_while0b_call0_c : Ref sig .tc := ⟨.hbm, 36, rfl⟩
abbrev main_while0b_call0_c_0 : Ref sig .tc := ⟨.hbm, 37, rfl⟩
abbrev main_while0b_call0_v0 : Ref sig .tc := ⟨.hbm, 38, rfl⟩
abbrev main_while0b_v14 : Ref sig .tc := ⟨.hbm, 39, rfl⟩
abbrev main_while0b_call1_v0 : Ref sig .tc := ⟨.hbm, 40, rfl⟩
abbrev main_while0b_v15 : Ref sig .tc := ⟨.hbm, 41, rfl⟩
abbrev main_while0b_v16 : Ref sig .tc := ⟨.hbm, 42, rfl⟩
abbrev main_while0b_v17 : Ref sig .tc := ⟨.hbm, 43, rfl⟩
abbrev main_while0b_v18 : Ref sig .tc := ⟨.hbm, 44, rfl⟩
abbrev main_while0b_v19 : Ref sig .tc := ⟨.hbm, 45, rfl⟩
abbrev main_while0b_v20 : Ref sig .tc := ⟨.hbm, 46, rfl⟩
abbrev main_while0b_v21 : Ref sig .tc := ⟨.hbm, 47, rfl⟩
abbrev main_while0b_v22 : Ref sig .tc := ⟨.hbm, 48, rfl⟩
abbrev main_while0b_v23 : Ref sig .tc := ⟨.hbm, 49, rfl⟩
abbrev main_while0b_v24 : Ref sig .tc := ⟨.hbm, 50, rfl⟩
abbrev main_while0b_v25 : Ref sig .tc := ⟨.hbm, 51, rfl⟩
abbrev main_while0b_v26 : Ref sig .tc := ⟨.hbm, 52, rfl⟩
abbrev main_while0b_v27 : Ref sig .tc := ⟨.hbm, 53, rfl⟩
abbrev main_while0b_v28 : Ref sig .tc := ⟨.hbm, 54, rfl⟩
abbrev main_while0b_v29 : Ref sig .tc := ⟨.hbm, 55, rfl⟩
abbrev main_while0b_v30 : Ref sig .tc := ⟨.hbm, 56, rfl⟩
abbrev main_while0b_v31 : Ref sig .tc := ⟨.hbm, 57, rfl⟩
abbrev main_while0b_v32 : Ref sig .tc := ⟨.hbm, 58, rfl⟩
abbrev main_while0b_v33 : Ref sig .tc := ⟨.hbm, 59, rfl⟩
abbrev main_while0b_v34 : Ref sig .tc := ⟨.hbm, 60, rfl⟩
abbrev main_while0b_cst_12 : Ref sig .tc := ⟨.hbm, 61, rfl⟩
abbrev main_while0b_v35 : Ref sig .tc := ⟨.hbm, 62, rfl⟩
abbrev main_while0b_v36 : Ref sig .tc := ⟨.hbm, 63, rfl⟩
abbrev main_while0b_cst_13 : Ref sig .tc := ⟨.hbm, 64, rfl⟩
abbrev main_while0b_v37 : Ref sig .tc := ⟨.hbm, 65, rfl⟩
abbrev main_while0b_v38 : Ref sig .tc := ⟨.hbm, 66, rfl⟩
abbrev main_while0b_v39 : Ref sig .tc := ⟨.hbm, 67, rfl⟩
abbrev main_while0b_v40 : Ref sig .tc := ⟨.hbm, 68, rfl⟩
abbrev main_while0b_v41 : Ref sig .tc := ⟨.hbm, 69, rfl⟩
abbrev main_while0b_cst_14 : Ref sig .tc := ⟨.hbm, 70, rfl⟩
abbrev main_while0b_v42 : Ref sig .tc := ⟨.hbm, 71, rfl⟩
abbrev main_while0b_v43 : Ref sig .tc := ⟨.hbm, 72, rfl⟩
abbrev main_while0b_cst_15 : Ref sig .tc := ⟨.hbm, 73, rfl⟩
abbrev main_while0b_v44 : Ref sig .tc := ⟨.hbm, 74, rfl⟩
abbrev main_while0b_v45 : Ref sig .tc := ⟨.hbm, 75, rfl⟩
abbrev main_while0b_v46 : Ref sig .tc := ⟨.hbm, 76, rfl⟩
abbrev main_while0b_v47 : Ref sig .tc := ⟨.hbm, 77, rfl⟩
abbrev main_while0b_v48 : Ref sig .tc := ⟨.hbm, 78, rfl⟩
abbrev main_while0b_cst_16 : Ref sig .tc := ⟨.hbm, 79, rfl⟩
abbrev main_while0b_v49 : Ref sig .tc := ⟨.hbm, 80, rfl⟩
abbrev main_while0b_v50 : Ref sig .tc := ⟨.hbm, 81, rfl⟩
abbrev main_while0b_v51 : Ref sig .tc := ⟨.hbm, 82, rfl⟩
abbrev main_while0b_v52 : Ref sig .tc := ⟨.hbm, 83, rfl⟩
abbrev main_while0b_v53 : Ref sig .tc := ⟨.hbm, 84, rfl⟩
abbrev main_while0b_v54 : Ref sig .tc := ⟨.hbm, 85, rfl⟩
abbrev main_while0b_v55 : Ref sig .tc := ⟨.hbm, 86, rfl⟩
abbrev main_while0b_v56 : Ref sig .tc := ⟨.hbm, 87, rfl⟩
abbrev main_while0b_call2_v0 : Ref sig .tc := ⟨.hbm, 88, rfl⟩
abbrev main_while0b_v57 : Ref sig .tc := ⟨.hbm, 89, rfl⟩
abbrev main_while0b_cst_17 : Ref sig .tc := ⟨.hbm, 90, rfl⟩
abbrev main_while0b_v58 : Ref sig .tc := ⟨.hbm, 91, rfl⟩
abbrev main_while0b_call3_v0 : Ref sig .tc := ⟨.hbm, 92, rfl⟩
abbrev main_while0b_v59 : Ref sig .tc := ⟨.hbm, 93, rfl⟩
abbrev main_while0b_call4_v0 : Ref sig .tc := ⟨.hbm, 94, rfl⟩
abbrev main_while0b_call4_c : Ref sig .tc := ⟨.hbm, 95, rfl⟩
abbrev main_while0b_call4_c_0 : Ref sig .tc := ⟨.hbm, 96, rfl⟩
abbrev main_while0b_v60 : Ref sig .tc := ⟨.hbm, 97, rfl⟩
abbrev main_while0b_c_18 : Ref sig .tc := ⟨.hbm, 98, rfl⟩
abbrev main_while0b_v61 : Ref sig .tc := ⟨.hbm, 99, rfl⟩
abbrev main_v13 : Ref sig .tc := ⟨.hbm, 100, rfl⟩

abbrev nD : Nat := 1
abbrev τ : Topo := Topo.v7x

variable {F : FTy → Type} [FloatOps F]

abbrev main_while0_count : Scf.Loop 32 := ⟨0#32, 64#32, 1#32⟩
-- ==== Proof.Steps.lean ====
/-
  What one grid point of the fused pooling-and-GRU kernel computes, as functions of the blocks it reads.
  A point of the first phase turns eight batches of segments and encoder states into eight rows of projected
  inputs (`giBlk`). A point of the second phase makes four GRU steps; one step is `newH` (the new hidden state),
  `outRow` (what is stored for it) and `nextH` (the state carried on).
-/
module

public import proofs.«01_k».proof.Proof.Gen.KernelIdeal.Skeleton
public import Idealize.ShloMosaic.Lib.VecWindow
public import Idealize.ShloMosaic.Lib.Pipeline.Value
public import Idealize.ShloMosaic.Lib.ValueIdxCore

@[expose] public section

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F]

/-- Batch 0..7 of a block of segments, as the body loads it. -/
abbrev segOf (x : S8x64x512.Idx → Elt F .i32) (o : Fin 3 → ℕ) (h : ∀ a, o a + S1x64x512.size a ≤ S8x64x512.size a) : Vec F S1x64x512 .i32 :=
  VecWindow.window x o S1x64x512.size h

/-- Batch 0..7 of a block of encoder states, as the body loads it. -/
abbrev encOf (x : S8x512x1024.Idx → Elt F .f32) (o : Fin 3 → ℕ) (h : ∀ a, o a + S1x512x1024.size a ≤ S8x512x1024.size a) : Vec F S1x512x1024 .f32 :=
  VecWindow.window x o S1x512x1024.size h

/-- The projected inputs of the eight batches of one point of the first phase. -/
def giBlk (sg : S8x64x512.Idx → Elt F .i32) (en : S8x512x1024.Idx → Elt F .f32) (wi : Vec F S1536x1024 .bf16) (bi : Vec F S1x1536 .f32) :
    FVec F S8x64x1536 .f32 :=
  k0_pay1
    (k0_pay6 (segOf sg ![0, 0, 0] inb_S8x64x512_S1x64x512_0_0_0) (encOf en ![0, 0, 0] inb_S8x512x1024_S1x512x1024_0_0_0))
    (k0_pay7 (segOf sg ![1, 0, 0] inb_S8x64x512_S1x64x512_1_0_0) (encOf en ![1, 0, 0] inb_S8x512x1024_S1x512x1024_1_0_0))
    (k0_pay10 (k0_pay8 (segOf sg ![2, 0, 0] inb_S8x64x512_S1x64x512_2_0_0)) (k0_pay9 (segOf sg ![2, 0, 0] inb_S8x64x512_S1x64x512_2_0_0))
      (encOf en ![2, 0, 0] inb_S8x512x1024_S1x512x1024_2_0_0))
    (k0_pay11 (segOf sg ![3, 0, 0] inb_S8x64x512_S1x64x512_3_0_0) (encOf en ![3, 0, 0] inb_S8x512x1024_S1x512x1024_3_0_0))
    (k0_pay15 (k0_pay13 (segOf sg ![4, 0, 0] inb_S8x64x512_S1x64x512_4_0_0) (encOf en ![4, 0, 0] inb_S8x512x1024_S1x512x1024_4_0_0))
      (k0_pay14 (segOf sg ![4, 0, 0] inb_S8x64x512_S1x64x512_4_0_0)))
    (k0_pay16 (segOf sg ![5, 0, 0] inb_S8x64x512_S1x64x512_5_0_0) (encOf en ![5, 0, 0] inb_S8x512x1024_S1x512x1024_5_0_0))
    (k0_pay18 (segOf sg ![6, 0, 0] inb_S8x64x512_S1x64x512_6_0_0) (encOf en ![6, 0, 0] inb_S8x512x1024_S1x512x1024_6_0_0))
    (k0_pay19 (segOf sg ![6, 0, 0] inb_S8x64x512_S1x64x512_6_0_0))
    (segOf sg ![7, 0, 0] inb_S8x64x512_S1x64x512_7_0_0) (encOf en ![7, 0, 0] inb_S8x512x1024_S1x512x1024_7_0_0) wi bi

/-- The GRU's new hidden state from the old one, a row of projected inputs, the recurrent weights and their bias. -/
abbrev newH (h : Vec F S16x512 .f32) (g : Vec F S16x1x1536 .f32) (w : Vec F S1536x512 .bf16) (b : Vec F S1x1536 .f32) : FVec F S16x512 .f32 :=
  k0_pay20 h g w b

/-- The row stored for step `k`: the new state where `k` is below the batch's group count, zero elsewhere. -/
abbrev outRow (k : BitVec 32) (n : FVec F S16x512 .f32) (gc : Vec F S16x1 .i32) : FVec F S16x1x512 .f32 := k0_pay4 k n gc

/-- The state carried on from step `k`: the new state where `k` is below the batch's group count, the old one elsewhere. -/
abbrev nextH (h : FVec F S16x512 .f32) (k : BitVec 32) (n : FVec F S16x512 .f32) (gc : Vec F S16x1 .i32) : FVec F S16x512 .f32 := k0_pay5 h k n gc

/-- The number of the `j`-th step of a point of the second phase, as the body computes it from the point's coordinate. -/
abbrev stepNo (a : BitVec 32) (j : BitVec 32) : BitVec 32 := Scalar.addi (Scalar.muli (Scalar.subi a 2#32) 4#32) j

variable (a : BitVec 32) (h0 h1 h2 : Vec F S16x512 .f32) (g : Vec F S16x1x1536 .f32) (w : Vec F S1536x512 .bf16) (b : Vec F S1x1536 .f32)
  (n : FVec F S16x512 .f32) (gc : Vec F S16x1 .i32)

/-! The body's values of the four steps are these functions. -/

theorem out0 : k0_pay23 (k0_pay22 a h0 g w b gc) = outRow (stepNo a 0#32) (newH h0 g w b) gc := rfl
theorem next0 : k0_pay24 h0 n (k0_pay21 (F := F) a gc) = nextH h0 (stepNo a 0#32) n gc := by
  unfold k0_pay24 nextH k0_pay5; simp only [shapeCast_self]; rfl
theorem new1 (k : IVec S16x1 1) : k0_pay25 h0 n k g w b = newH (k0_pay24 h0 n k) g w b := rfl
theorem out1 : k0_pay29 n (k0_pay27 (F := F) a gc) k0_pay28 = outRow (stepNo a 1#32) n gc := rfl
theorem next1 : k0_pay30 h1 n (k0_pay26 (F := F) a gc) = nextH h1 (stepNo a 1#32) n gc := by
  unfold k0_pay30 nextH k0_pay5; simp only [shapeCast_self]; rfl
theorem new2 (k : IVec S16x1 1) : k0_pay31 h1 n k g w b = newH (k0_pay30 h1 n k) g w b := rfl
theorem out2 : k0_pay33 n (k0_pay32 (F := F) a gc) = outRow (stepNo a 2#32) n gc := rfl
theorem next2 : k0_pay34 h2 n (k0_pay32 (F := F) a gc) = nextH h2 (stepNo a 2#32) n gc := by
  unfold k0_pay34 nextH k0_pay5; simp only [shapeCast_self]; rfl
theorem new3 (k : IVec S16x1 1) : k0_pay35 h2 n k g w b = newH (k0_pay34 h2 n k) g w b := rfl

/-! The whole scan, from the projected inputs `g`, the recurrent weights `w`, their bias `b` and the group counts `gc`. -/

/-- Row `k` of the projected inputs, of every batch. -/
def giRow (g : S16x64x1536.Idx → Elt F .f32) (k : ℕ) : Vec F S16x1x1536 .f32 :=
  fun y => g (ix3 (y 0) ⟨k % 64, Nat.mod_lt _ (by decide)⟩ (y 2))

/-- The hidden state before step `k`: zero, then one masked step after another. -/
def hidSeq (g : S16x64x1536.Idx → Elt F .f32) (w : Vec F S1536x512 .bf16) (b : Vec F S1x1536 .f32) (gc : Vec F S16x1 .i32) : ℕ → Vec F S16x512 .f32
  | 0 => k0_pay2
  | k + 1 => nextH (hidSeq g w b gc k) (BitVec.ofNat 32 k) (newH (hidSeq g w b gc k) (giRow g k) w b) gc

/-- The output of step `k`. -/
def outSeq (g : S16x64x1536.Idx → Elt F .f32) (w : Vec F S1536x512 .bf16) (b : Vec F S1x1536 .f32) (gc : Vec F S16x1 .i32) (k : ℕ) : FVec F S16x1x512 .f32 :=
  outRow (BitVec.ofNat 32 k) (newH (hidSeq g w b gc k) (giRow g k) w b) gc

/-- The whole output array: entry `(p, k, q)` is entry `(p, q)` of the output of step `k`. -/
def outAll (g : S16x64x1536.Idx → Elt F .f32) (w : Vec F S1536x512 .bf16) (b : Vec F S1x1536 .f32) (gc : Vec F S16x1 .i32) : S16x64x512.Idx → Elt F .f32 :=
  fun y => outSeq g w b gc (y 1).val (ix3 (y 0) 0 (y 2))

/-- An output array with the four rows from `q` on computed. -/
def putRows (g : S16x64x1536.Idx → Elt F .f32) (w : Vec F S1536x512 .bf16) (b : Vec F S1x1536 .f32) (gc : Vec F S16x1 .i32)
    (q : ℕ) (x : S16x64x512.Idx → Elt F .f32) : S16x64x512.Idx → Elt F .f32 :=
  fun y => if q ≤ (y 1).val ∧ (y 1).val < q + 4 then outAll g w b gc y else x y

/-- A box of one row of the projected inputs is that row. -/
theorem window_giRow (g : S16x64x1536.Idx → Elt F .f32) (k : ℕ) (off : Fin 3 → ℕ) (inb : ∀ a, off a + S16x1x1536.size a ≤ S16x64x1536.size a)
    (ho : off = ![0, k, 0]) : VecWindow.window g off S16x1x1536.size inb = giRow g k := by
  subst ho
  have hk : k + 1 ≤ 64 := inb 1
  funext y
  have h1 : (y 1).val < 1 := (y 1).isLt
  refine congrArg g (funext fun a => Fin.ext ?_)
  match a with
  | ⟨0, _⟩ => show 0 + 1 * (y 0).val = (y 0).val; omega
  | ⟨1, _⟩ => show k + 1 * (y 1).val = k % 64; omega
  | ⟨2, _⟩ => show 0 + 1 * (y 2).val = (y 2).val; omega

/-- Storing one row changes that row alone. -/
theorem put_row (x : S16x64x512.Idx → Elt F .f32) (k : ℕ) (off : Fin 3 → ℕ) (ho : off = ![0, k, 0]) (r : Vec F S16x1x512 .f32) :
    VecWindow.put x off S16x1x512.size r = fun y => if (y 1).val = k then r (ix3 (y 0) 0 (y 2)) else x y := by
  subst ho
  funext y
  by_cases h : (y 1).val = k
  · have hin : ∀ a, (![0, k, 0] : Fin 3 → ℕ) a ≤ (y a).val ∧ (y a).val < (![0, k, 0] : Fin 3 → ℕ) a + S16x1x512.size a := fun a => by
      match a with
      | ⟨0, _⟩ => exact ⟨Nat.zero_le _, by have := (y 0).isLt; show (y 0).val < 0 + 16; exact (Nat.zero_add 16).symm ▸ this⟩
      | ⟨1, _⟩ => show k ≤ (y 1).val ∧ (y 1).val < k + 1; omega
      | ⟨2, _⟩ => exact ⟨Nat.zero_le _, by have := (y 2).isLt; show (y 2).val < 0 + 512; exact (Nat.zero_add 512).symm ▸ this⟩
    rw [if_pos h]
    refine (dif_pos hin).trans (congrArg r (funext fun a => Fin.ext ?_))
    match a with
    | ⟨0, _⟩ => show (y 0).val - 0 = (y 0).val; omega
    | ⟨1, _⟩ => show (y 1).val - k = 0; omega
    | ⟨2, _⟩ => show (y 2).val - 0 = (y 2).val; omega
  · rw [if_neg h]
    refine dif_neg fun hin => h ?_
    have := hin 1
    have h' : k ≤ (y 1).val ∧ (y 1).val < k + 1 := this
    omega

/-- Storing the outputs of four steps, one row each, computes the four rows. -/
theorem put_four (g : S16x64x1536.Idx → Elt F .f32) (w : Vec F S1536x512 .bf16) (b : Vec F S1x1536 .f32) (gc : Vec F S16x1 .i32)
    (q : ℕ) (x : S16x64x512.Idx → Elt F .f32) (o0 o1 o2 o3 : Fin 3 → ℕ)
    (e0 : o0 = ![0, q + 0, 0]) (e1 : o1 = ![0, q + 1, 0]) (e2 : o2 = ![0, q + 2, 0]) (e3 : o3 = ![0, q + 3, 0]) :
    VecWindow.put (VecWindow.put (VecWindow.put (VecWindow.put x o0 S16x1x512.size (outSeq g w b gc (q + 0))) o1 S16x1x512.size (outSeq g w b gc (q + 1)))
      o2 S16x1x512.size (outSeq g w b gc (q + 2))) o3 S16x1x512.size (outSeq g w b gc (q + 3)) = putRows g w b gc q x := by
  rw [put_row _ _ o0 e0, put_row _ _ o1 e1, put_row _ _ o2 e2, put_row _ _ o3 e3]
  funext y
  show (if (y 1).val = q + 3 then _ else if (y 1).val = q + 2 then _ else if (y 1).val = q + 1 then _ else if (y 1).val = q + 0 then _ else x y)
    = if q ≤ (y 1).val ∧ (y 1).val < q + 4 then outSeq g w b gc (y 1).val (ix3 (y 0) 0 (y 2)) else x y
  by_cases h3 : (y 1).val = q + 3
  · rw [if_pos h3, if_pos (by omega), h3]
  by_cases h2 : (y 1).val = q + 2
  · rw [if_neg h3, if_pos h2, if_pos (by omega), h2]
  by_cases h1 : (y 1).val = q + 1
  · rw [if_neg h3, if_neg h2, if_pos h1, if_pos (by omega), h1]
  by_cases h0 : (y 1).val = q + 0
  · rw [if_neg h3, if_neg h2, if_neg h1, if_pos h0, if_pos (by omega), h0]
  rw [if_neg h3, if_neg h2, if_neg h1, if_neg h0, if_neg (by omega)]

end Cert.KernelIdeal.Hand

end
-- ==== Proof.Run.lean ====
/-
  The kernel's body, run once for each of its three kinds of grid point: a point of the first phase (`runA`), the
  first point of the second phase, which clears the hidden state before it steps (`runB0`), and a later point of it (`runB`).
-/
module

public import proofs.«01_k».proof.Proof.Steps
public import proofs.«01_k».proof.Proof.Gen.KernelIdeal.Frame
public import Idealize.ShloMosaic.Lib.Pipeline.Frame
public import Idealize.ShloMosaic.Lib.Pipeline.TableIdle
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

/-- The two scratch arrays: the projected inputs of all batches, and the hidden state. -/
abbrev scG : Memref sig .tc .vmem S16x64x1536 .f32 := Memref.whole cc0_scratch0
abbrev scH : Memref sig .tc .vmem S16x512 .f32 := Memref.whole cc0_scratch1

/-- A load of a box of a memref held at `x` reads that box of `x`. -/
theorem load_unit {sp : Space} {s : Shape} {e : EltTy} (v : View sig .tc sp s e) (x : s.Idx → Elt F e) {off size : Fin s.rank → ℕ}
    (inb : ∀ a, off a + size a ≤ s.size a) :
    v.readAt (Elt F) (Rect.unit off size inb).toLoadRect (v.rep x) = VecWindow.window x off size inb :=
  View.readAt_rep_unit v x inb rfl inb

/-- The box that is the whole array is the array. -/
theorem window_whole {s : Shape} {α : Type} (x : s.Idx → α) {off : Fin s.rank → ℕ} (inb : ∀ a, off a + s.size a ≤ s.size a) :
    VecWindow.window x off s.size inb = x := by
  funext y
  exact congrArg x (Rect.emb_unit_full inb y)

/-- `window_whole` at two axes, the sizes spelled as numbers. -/
theorem window_whole2 {n0 n1 : ℕ} {α : Type} (x : (⟨2, ![n0, n1]⟩ : Shape).Idx → α) (inb : ∀ a, (![0, 0] : Fin 2 → ℕ) a + ![n0, n1] a ≤ ![n0, n1] a) :
    VecWindow.window x ![0, 0] ![n0, n1] inb = x :=
  window_whole x inb

/-- A further store puts its payload into what the earlier ones left. -/
theorem store_next {sp : Space} {s : Shape} {e : EltTy} (v : View sig .tc sp s e) (f : v.ty.Contents (Elt F)) {off size : Fin s.rank → ℕ}
    (inb : ∀ a, off a + size a ≤ s.size a) (w : (Rect.unit off size inb).shape.Idx → Elt F e) (L : List (View.Piece (Elt F) s e)) :
    v.read (Elt F) (v.writes (Elt F) f (⟨Rect.unit off size inb, w⟩ :: L)) = VecWindow.put (v.read (Elt F) (v.writes (Elt F) f L)) off size w :=
  View.read_writes_cons_put v f inb w L rfl

variable (c : Dev nD) (i : grid0.Coords)
  (arg1 : Memref sig .tc .vmem S8x64x512 .i32) (harg1 : arg1.IsWhole) (arg2 : Memref sig .tc .vmem S8x512x1024 .f32) (harg2 : arg2.IsWhole)
  (arg3 : Memref sig .tc .vmem S1536x1024 .bf16) (harg3 : arg3.IsWhole) (arg4 : Memref sig .tc .vmem S1536x512 .bf16) (harg4 : arg4.IsWhole)
  (arg5 : Memref sig .tc .vmem S1x1536 .f32) (harg5 : arg5.IsWhole) (arg6 : Memref sig .tc .vmem S1x1536 .f32) (harg6 : arg6.IsWhole)
  (arg7 : Memref sig .tc .vmem S16x1 .i32) (harg7 : arg7.IsWhole) (arg8 : Memref sig .tc .vmem S16x64x512 .f32) (harg8 : arg8.IsWhole)

/-- A point of the first phase: the eight batches' projected inputs are stored into the scratch, all else is left alone. -/
theorem runA (hc1 : k0_cond1 i = 1#1)
    (hc2 : ¬ (Scalar.cmpi .ne (Scalar.extui (Scalar.cmpi .eq (BitVec.ofNat 32 (i 0).val) 2#32) : BitVec 32) 0#32 = 1#1))
    (hc3 : ¬ k0_cond3 i = 1#1) (x1 : S8x64x512.Idx → Elt F .i32) (x2 : S8x512x1024.Idx → Elt F .f32)
    (x3 : Vec F S1536x1024 .bf16) (x5 : Vec F S1x1536 .f32) (g : S16x64x1536.Idx → Elt F .f32) (K : PUnit → sProp 𝕄) :
    iprop(owns (c : Thread nD τ) arg1 fullShare x1 ∗ owns (c : Thread nD τ) arg2 fullShare x2
        ∗ owns (c : Thread nD τ) arg3 fullShare x3 ∗ owns (c : Thread nD τ) arg5 fullShare x5
        ∗ owns (c : Thread nD τ) scG fullShare g
        ∗ (iprop(owns (c : Thread nD τ) arg1 fullShare x1 ∗ owns (c : Thread nD τ) arg2 fullShare x2
            ∗ owns (c : Thread nD τ) arg3 fullShare x3 ∗ owns (c : Thread nD τ) arg5 fullShare x5
            ∗ owns (c : Thread nD τ) scG fullShare (VecWindow.put g (k0_off1 i) S8x64x1536.size (giBlk x1 x2 x3 x5))) -∗ K ⟨⟩))
      ⊢ wp frame (wpE (defs₀ (F := F)) Variants.none c none) Set.univ
          (cc0__fused_kernel i arg1 harg1 arg2 harg2 arg3 harg3 arg4 harg4 arg5 harg5 arg6 harg6 arg7 harg7 arg8 harg8
            scG (Memref.isWhole_whole _) scH (Memref.isWhole_whole _)) K := by
  simp only [cc0__fused_kernel_eq_skeleton]; unfold cc0__fused_kernel_skel
  simp only [k0_part1_eq_skeleton, k0_part2_eq_skeleton, k0_part3_eq_skeleton]; unfold k0_part1_skel k0_part2_skel k0_part3_skel
  refine (BIClass.sep_mono (rep_of_owns _ _ _ _) (BIClass.sep_mono (rep_of_owns _ _ _ _) (BIClass.sep_mono (rep_of_owns _ _ _ _)
    (BIClass.sep_mono (rep_of_owns _ _ _ _) (BIClass.sep_mono (rep_of_owns _ _ _ _) .rfl))))).trans ?_
  iintro ⟨H1, H2, H3, H5, HG, Hk⟩
  sl_exec (disch := first | exact hc1 | exact hc2 | exact hc3)
  sl_step
  iapply Hk
  isplitl [H1]; · iapply owns_of_rep; iexact H1
  isplitl [H2]; · iapply owns_of_rep; iexact H2
  isplitl [H3]; · iapply owns_of_rep; iexact H3
  isplitl [H5]; · iapply owns_of_rep; iexact H5
  unfold owns
  iexists _
  isplitr; swap; · iexact HG
  ipureintro
  refine (View.read_writes_rep_unit _ _ _ _ rfl).trans (congrArg (VecWindow.put g _ _) ?_)
  delta runA.sl.v121 runA.sl.v124 runA.sl.v139 runA.sl.v142
  simp only [load_unit, window_whole2]
  rfl

/-- A later point of the second phase: the four rows of the output and the new hidden state are stored. -/
theorem runB (hc1 : ¬ k0_cond1 i = 1#1)
    (hc2 : ¬ (Scalar.cmpi .ne (Scalar.extui (Scalar.cmpi .eq (BitVec.ofNat 32 (i 0).val) 2#32) : BitVec 32) 0#32 = 1#1))
    (hc3 : k0_cond3 i = 1#1) (q : ℕ) (hg : ∀ j : Fin 4, k0_off2 i (BitVec.ofNat 32 j.val) = ![0, q + j.val, 0])
    (ho : ∀ j : Fin 4, k0_off3 i (BitVec.ofNat 32 j.val) = ![0, q + j.val, 0])
    (hn : ∀ j : Fin 4, stepNo (BitVec.ofNat 32 (i 0).val) (BitVec.ofNat 32 j.val) = BitVec.ofNat 32 (q + j.val)) (x4 : Vec F S1536x512 .bf16) (x6 : Vec F S1x1536 .f32) (x7 : Vec F S16x1 .i32)
    (y : S16x64x512.Idx → Elt F .f32) (g : S16x64x1536.Idx → Elt F .f32) (K : PUnit → sProp 𝕄) :
    iprop(owns (c : Thread nD τ) arg4 fullShare x4 ∗ owns (c : Thread nD τ) arg6 fullShare x6
        ∗ owns (c : Thread nD τ) arg7 fullShare x7 ∗ owns (c : Thread nD τ) arg8 fullShare y
        ∗ owns (c : Thread nD τ) scG fullShare g ∗ owns (c : Thread nD τ) scH fullShare (hidSeq g x4 x6 x7 q)
        ∗ (iprop(owns (c : Thread nD τ) arg4 fullShare x4 ∗ owns (c : Thread nD τ) arg6 fullShare x6
            ∗ owns (c : Thread nD τ) arg7 fullShare x7 ∗ owns (c : Thread nD τ) arg8 fullShare (putRows g x4 x6 x7 q y)
            ∗ owns (c : Thread nD τ) scG fullShare g ∗ owns (c : Thread nD τ) scH fullShare (hidSeq g x4 x6 x7 (q + 4))) -∗ K ⟨⟩))
      ⊢ wp frame (wpE (defs₀ (F := F)) Variants.none c none) Set.univ
          (cc0__fused_kernel i arg1 harg1 arg2 harg2 arg3 harg3 arg4 harg4 arg5 harg5 arg6 harg6 arg7 harg7 arg8 harg8
            scG (Memref.isWhole_whole _) scH (Memref.isWhole_whole _)) K := by
  simp only [cc0__fused_kernel_eq_skeleton]; unfold cc0__fused_kernel_skel
  simp only [k0_part4_eq_skeleton, k0_part5_eq_skeleton, k0_part6_eq_skeleton, k0_part7_eq_skeleton]
  unfold k0_part4_skel k0_part5_skel k0_part6_skel k0_part7_skel
  refine (BIClass.sep_mono (rep_of_owns _ _ _ _) (BIClass.sep_mono (rep_of_owns _ _ _ _) (BIClass.sep_mono (rep_of_owns _ _ _ _)
    (BIClass.sep_mono (rep_of_owns _ _ _ _) (BIClass.sep_mono (rep_of_owns _ _ _ _) (BIClass.sep_mono (rep_of_owns _ _ _ _) .rfl)))))).trans ?_
  have w0 := fun inb => window_giRow g (q + 0) (k0_off2 i 0#32) inb (hg 0)
  have w1 := fun inb => window_giRow g (q + 1) (k0_off2 i 1#32) inb (hg 1)
  have w2 := fun inb => window_giRow g (q + 2) (k0_off2 i 2#32) inb (hg 2)
  have w3 := fun inb => window_giRow g (q + 3) (k0_off2 i 3#32) inb (hg 3)
  have n0 : stepNo (BitVec.ofNat 32 (i 0).val) 0#32 = BitVec.ofNat 32 (q + 0) := hn 0
  have n1 : stepNo (BitVec.ofNat 32 (i 0).val) 1#32 = BitVec.ofNat 32 (q + 1) := hn 1
  have n2 : stepNo (BitVec.ofNat 32 (i 0).val) 2#32 = BitVec.ofNat 32 (q + 2) := hn 2
  have n3 : stepNo (BitVec.ofNat 32 (i 0).val) 3#32 = BitVec.ofNat 32 (q + 3) := hn 3
  iintro ⟨H4, H6, H7, H8, HG, HH, Hk⟩
  sl_exec (disch := first | exact hc1 | exact hc2 | exact hc3)
  sl_step
  iapply Hk
  isplitl [H4]; · iapply owns_of_rep; iexact H4
  isplitl [H6]; · iapply owns_of_rep; iexact H6
  isplitl [H7]; · iapply owns_of_rep; iexact H7
  isplitl [H8]
  · unfold owns
    iexists _
    isplitr; swap; · iexact H8
    ipureintro
    delta runB.sl.v59 runB.sl.v106 runB.sl.v153 runB.sl.v183 runB.sl.v58 runB.sl.v57
    simp only [load_unit, window_whole2, store_next, View.writes_nil, View.read_rep,
      new1, new2, new3, out0, out1, out2, next0, next1, next2, w0, w1, w2, w3, n0, n1, n2, n3]
    exact put_four g x4 x6 x7 q y _ _ _ _ (ho 0) (ho 1) (ho 2) (ho 3)
  isplitl [HG]; · iapply owns_of_rep; iexact HG
  unfold owns
  iexists _
  isplitr; swap; · iexact HH
  ipureintro
  refine (View.read_writes_full _ _ _ _ _).trans ?_
  delta runB.sl.v59 runB.sl.v106 runB.sl.v153 runB.sl.v183 runB.sl.v58 runB.sl.v57
  simp only [load_unit, window_whole2,
      new1, new2, new3, out0, out1, out2, next0, next1, next2, w0, w1, w2, w3, n0, n1, n2, n3]
  rfl

/-- The first point of the second phase: the hidden state, whatever it was, is cleared, then the first four steps are made. -/
theorem runB0 (hc1 : ¬ k0_cond1 i = 1#1)
    (hc2 : Scalar.cmpi .ne (Scalar.extui (Scalar.cmpi .eq (BitVec.ofNat 32 (i 0).val) 2#32) : BitVec 32) 0#32 = 1#1)
    (hc3 : k0_cond3 i = 1#1) (hg : ∀ j : Fin 4, k0_off2 i (BitVec.ofNat 32 j.val) = ![0, 0 + j.val, 0])
    (ho : ∀ j : Fin 4, k0_off3 i (BitVec.ofNat 32 j.val) = ![0, 0 + j.val, 0])
    (hn : ∀ j : Fin 4, stepNo (BitVec.ofNat 32 (i 0).val) (BitVec.ofNat 32 j.val) = BitVec.ofNat 32 (0 + j.val)) (x4 : Vec F S1536x512 .bf16) (x6 : Vec F S1x1536 .f32) (x7 : Vec F S16x1 .i32)
    (y : S16x64x512.Idx → Elt F .f32) (g : S16x64x1536.Idx → Elt F .f32) (h : Vec F S16x512 .f32) (K : PUnit → sProp 𝕄) :
    iprop(owns (c : Thread nD τ) arg4 fullShare x4 ∗ owns (c : Thread nD τ) arg6 fullShare x6
        ∗ owns (c : Thread nD τ) arg7 fullShare x7 ∗ owns (c : Thread nD τ) arg8 fullShare y
        ∗ owns (c : Thread nD τ) scG fullShare g ∗ owns (c : Thread nD τ) scH fullShare h
        ∗ (iprop(owns (c : Thread nD τ) arg4 fullShare x4 ∗ owns (c : Thread nD τ) arg6 fullShare x6
            ∗ owns (c : Thread nD τ) arg7 fullShare x7 ∗ owns (c : Thread nD τ) arg8 fullShare (putRows g x4 x6 x7 0 y)
            ∗ owns (c : Thread nD τ) scG fullShare g ∗ owns (c : Thread nD τ) scH fullShare (hidSeq g x4 x6 x7 (0 + 4))) -∗ K ⟨⟩))
      ⊢ wp frame (wpE (defs₀ (F := F)) Variants.none c none) Set.univ
          (cc0__fused_kernel i arg1 harg1 arg2 harg2 arg3 harg3 arg4 harg4 arg5 harg5 arg6 harg6 arg7 harg7 arg8 harg8
            scG (Memref.isWhole_whole _) scH (Memref.isWhole_whole _)) K := by
  simp only [cc0__fused_kernel_eq_skeleton]; unfold cc0__fused_kernel_skel
  simp only [k0_part4_eq_skeleton, k0_part5_eq_skeleton, k0_part6_eq_skeleton, k0_part7_eq_skeleton]
  unfold k0_part4_skel k0_part5_skel k0_part6_skel k0_part7_skel
  refine (BIClass.sep_mono (rep_of_owns _ _ _ _) (BIClass.sep_mono (rep_of_owns _ _ _ _) (BIClass.sep_mono (rep_of_owns _ _ _ _)
    (BIClass.sep_mono (rep_of_owns _ _ _ _) (BIClass.sep_mono (rep_of_owns _ _ _ _) (BIClass.sep_mono (rep_of_owns _ _ _ _) .rfl)))))).trans ?_
  have w0 := fun inb => window_giRow g (0 + 0) (k0_off2 i 0#32) inb (hg 0)
  have w1 := fun inb => window_giRow g (0 + 1) (k0_off2 i 1#32) inb (hg 1)
  have w2 := fun inb => window_giRow g (0 + 2) (k0_off2 i 2#32) inb (hg 2)
  have w3 := fun inb => window_giRow g (0 + 3) (k0_off2 i 3#32) inb (hg 3)
  have n0 : stepNo (BitVec.ofNat 32 (i 0).val) 0#32 = BitVec.ofNat 32 (0 + 0) := hn 0
  have n1 : stepNo (BitVec.ofNat 32 (i 0).val) 1#32 = BitVec.ofNat 32 (0 + 1) := hn 1
  have n2 : stepNo (BitVec.ofNat 32 (i 0).val) 2#32 = BitVec.ofNat 32 (0 + 2) := hn 2
  have n3 : stepNo (BitVec.ofNat 32 (i 0).val) 3#32 = BitVec.ofNat 32 (0 + 3) := hn 3
  iintro ⟨H4, H6, H7, H8, HG, HH, Hk⟩
  sl_exec (disch := first | exact hc1 | exact hc2 | exact hc3)
  sl_step
  iapply Hk
  isplitl [H4]; · iapply owns_of_rep; iexact H4
  isplitl [H6]; · iapply owns_of_rep; iexact H6
  isplitl [H7]; · iapply owns_of_rep; iexact H7
  isplitl [H8]
  · unfold owns
    iexists _
    isplitr; swap; · iexact H8
    ipureintro
    delta runB0.sl.v59 runB0.sl.v106 runB0.sl.v153 runB0.sl.v183 runB0.sl.v58 runB0.sl.v57
    simp only [load_unit, window_whole2, store_next, View.writes_nil, View.read_rep,
      new1, new2, new3, out0, out1, out2, next0, next1, next2, w0, w1, w2, w3, n0, n1, n2, n3]
    rw [show runB0.sl.v9 (F := F) c = hidSeq g x4 x6 x7 0 from View.readCov_full _ _ _ _ _]
    exact put_four g x4 x6 x7 0 y _ _ _ _ (ho 0) (ho 1) (ho 2) (ho 3)
  isplitl [HG]; · iapply owns_of_rep; iexact HG
  unfold owns
  iexists _
  isplitr; swap; · iexact HH
  ipureintro
  refine (View.read_writes_full _ _ _ _ _).trans ?_
  delta runB0.sl.v59 runB0.sl.v106 runB0.sl.v153 runB0.sl.v183 runB0.sl.v58 runB0.sl.v57
  simp only [load_unit, window_whole2,
      new1, new2, new3, out0, out1, out2, next0, next1, next2, w0, w1, w2, w3, n0, n1, n2, n3]
  rw [show runB0.sl.v9 (F := F) c = hidSeq g x4 x6 x7 0 from View.readCov_full _ _ _ _ _]
  rfl

end Cert.KernelIdeal.Hand

end
-- ==== Proof.Blocks.lean ====
/-
  What the pipeline hands the kernel's body at each grid point, and the closed forms of the conditions and offsets that
  the body computes from the point: points 0 and 1 are the first phase, points 2 to 17 the second.
-/
module

public import proofs.«01_k».proof.Proof.Steps
public import proofs.«01_k».proof.Proof.Gen.KernelIdeal.Frame

@[expose] public section

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

/-! ## The body's conditions and offsets -/

theorem coord (t : Fin grid0.N) : (grid0.coords t 0).val = t.val := by
  revert t; decide +kernel

/-- The first phase is points 0 and 1. -/
theorem cond1_iff : ∀ t : Fin grid0.N, k0_cond1 (grid0.coords t) = 1#1 ↔ t.val < 2 := by decide +kernel

/-- The hidden state is cleared at point 2. -/
theorem cond2_iff : ∀ t : Fin grid0.N, Scalar.cmpi .ne (Scalar.extui (Scalar.cmpi .eq (BitVec.ofNat 32 (grid0.coords t 0).val) 2#32) : BitVec 32) 0#32 = 1#1
    ↔ t.val = 2 := by decide +kernel

/-- The second phase is points 2 to 17. -/
theorem cond3_iff : ∀ t : Fin grid0.N, k0_cond3 (grid0.coords t) = 1#1 ↔ 2 ≤ t.val := by decide +kernel

/-- Point `t` of the first phase stores rows `8 t` to `8 t + 7` of the projected inputs. -/
theorem off1_at (t : Fin grid0.N) : k0_off1 (grid0.coords t) = ![8 * t.val, 0, 0] := by
  rw [k0_off1_eq, coord]

/-- Step `j` of point `t` of the second phase reads row `4 (t - 2) + j` of the projected inputs, -/
theorem off2_at : ∀ (t : Fin grid0.N) (j : Fin 4), 2 ≤ t.val →
    k0_off2 (grid0.coords t) (BitVec.ofNat 32 j.val) = ![0, 4 * (t.val - 2) + j.val, 0] := by decide +kernel

/-- stores that row of the output, -/
theorem off3_at : ∀ (t : Fin grid0.N) (j : Fin 4), 2 ≤ t.val →
    k0_off3 (grid0.coords t) (BitVec.ofNat 32 j.val) = ![0, 4 * (t.val - 2) + j.val, 0] := by decide +kernel

/-- and has that number. -/
theorem stepNo_at : ∀ (t : Fin grid0.N) (j : Fin 4), 2 ≤ t.val →
    stepNo (BitVec.ofNat 32 (grid0.coords t 0).val) (BitVec.ofNat 32 j.val) = BitVec.ofNat 32 (4 * (t.val - 2) + j.val) := by decide +kernel

/-! ## The windows' blocks -/

variable {F : FTy → Type} [FloatOps F]
variable (m : (ℓ : Loc nD τ sig) → Buf (Elt F) ℓ)

theorem idx0 : ∀ t : Fin grid0.N, t.val < 2 → win0_0.index t 0 = t.val ∧ win0_0.index t 1 = 0 ∧ win0_0.index t 2 = 0 := by decide +kernel
theorem idx1 : ∀ t : Fin grid0.N, t.val < 2 → win0_1.index t 0 = t.val ∧ win0_1.index t 1 = 0 ∧ win0_1.index t 2 = 0 := by decide +kernel
theorem idx2 : ∀ t : Fin grid0.N, win0_2.index t 0 = 0 ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 := by decide +kernel
theorem idx5 : ∀ t : Fin grid0.N, win0_5.index t 0 = 0 ∧ win0_5.index t 1 = 0 := by decide +kernel
theorem idx6 : ∀ t : Fin grid0.N, win0_6.index t 0 = 0 ∧ win0_6.index t 1 = 0 := by decide +kernel

/-- Block `k` of eight batches of the segments. -/
def segBlk (x : S16x64x512.Idx → Elt F .i32) (k : ℕ) : S8x64x512.Idx → Elt F .i32 :=
  fun z => x (ix3 ⟨(8 * k + (z 0).val) % 16, Nat.mod_lt _ (by decide)⟩ (z 1) (z 2))

/-- Block `k` of eight batches of the encoder states. -/
def encBlk (x : S16x512x1024.Idx → Elt F .f32) (k : ℕ) : S8x512x1024.Idx → Elt F .f32 :=
  fun z => x (ix3 ⟨(8 * k + (z 0).val) % 16, Nat.mod_lt _ (by decide)⟩ (z 1) (z 2))

/-- At a point of the first phase the segments' window holds that block of eight batches. -/
theorem iblk0_eq (c : Dev nD) (t : Fin cfg0.N) (ht : t.val < 2) : iblk m c 0 t = segBlk (V m c main_arg1) t.val := by
  obtain ⟨e0, e1, e2⟩ := idx0 t ht
  funext z
  have hz : (z 0).val < 8 := (z 0).isLt
  unfold iblk segBlk
  rw [View.read_apply]
  show V m c main_arg1 _ = V m c main_arg1 _
  refine congrArg (V m c main_arg1) (funext fun a => Fin.ext ?_)
  match a with
  | ⟨0, _⟩ => show win0_0.index t (0 : Fin 3) * 8 + 1 * (z 0).val = (8 * t.val + (z 0).val) % 16; omega
  | ⟨1, _⟩ => show win0_0.index t (1 : Fin 3) * 64 + 1 * (z 1).val = (z 1).val; omega
  | ⟨2, _⟩ => show win0_0.index t (2 : Fin 3) * 512 + 1 * (z 2).val = (z 2).val; omega

/-- At a point of the first phase the encoder states' window holds that block of eight batches. -/
theorem iblk1_eq (c : Dev nD) (t : Fin cfg0.N) (ht : t.val < 2) : iblk m c 1 t = encBlk (V m c main_arg0) t.val := by
  obtain ⟨e0, e1, e2⟩ := idx1 t ht
  funext z
  have hz : (z 0).val < 8 := (z 0).isLt
  unfold iblk encBlk
  rw [View.read_apply]
  show V m c main_arg0 _ = V m c main_arg0 _
  refine congrArg (V m c main_arg0) (funext fun a => Fin.ext ?_)
  match a with
  | ⟨0, _⟩ => show win0_1.index t (0 : Fin 3) * 8 + 1 * (z 0).val = (8 * t.val + (z 0).val) % 16; omega
  | ⟨1, _⟩ => show win0_1.index t (1 : Fin 3) * 512 + 1 * (z 1).val = (z 1).val; omega
  | ⟨2, _⟩ => show win0_1.index t (2 : Fin 3) * 1024 + 1 * (z 2).val = (z 2).val; omega

/-! The other input windows hold their whole arrays at every point. -/

theorem iblk2_eq (c : Dev nD) (t : Fin cfg0.N) : iblk m c 2 t = V m c main_v0 := by
  obtain ⟨e0, e1⟩ := idx2 t
  funext z
  unfold iblk
  rw [View.read_apply]
  show V m c main_v0 _ = V m c main_v0 _
  refine congrArg (V m c main_v0) (funext fun a => Fin.ext ?_)
  match a with
  | ⟨0, _⟩ => show win0_2.index t (0 : Fin 2) * 1536 + 1 * (z 0).val = (z 0).val; omega
  | ⟨1, _⟩ => show win0_2.index t (1 : Fin 2) * 1024 + 1 * (z 1).val = (z 1).val; omega

theorem iblk3_eq (c : Dev nD) (t : Fin cfg0.N) : iblk m c 3 t = V m c main_v1 := by
  obtain ⟨e0, e1⟩ := idx3 t
  funext z
  unfold iblk
  rw [View.read_apply]
  show V m c main_v1 _ = V m c main_v1 _
  refine congrArg (V m c main_v1) (funext fun a => Fin.ext ?_)
  match a with
  | ⟨0, _⟩ => show win0_3.index t (0 : Fin 2) * 1536 + 1 * (z 0).val = (z 0).val; omega
  | ⟨1, _⟩ => show win0_3.index t (1 : Fin 2) * 512 + 1 * (z 1).val = (z 1).val; omega

theorem iblk4_eq (c : Dev nD) (t : Fin cfg0.N) : iblk m c 4 t = V m c main_v2 := by
  obtain ⟨e0, e1⟩ := idx4 t
  funext z
  unfold iblk
  rw [View.read_apply]
  show V m c main_v2 _ = V m c main_v2 _
  refine congrArg (V m c main_v2) (funext fun a => Fin.ext ?_)
  match a with
  | ⟨0, _⟩ => show win0_4.index t (0 : Fin 2) * 1 + 1 * (z 0).val = (z 0).val; omega
  | ⟨1, _⟩ => show win0_4.index t (1 : Fin 2) * 1536 + 1 * (z 1).val = (z 1).val; omega

theorem iblk5_eq (c : Dev nD) (t : Fin cfg0.N) : iblk m c 5 t = V m c main_v3 := by
  obtain ⟨e0, e1⟩ := idx5 t
  funext z
  unfold iblk
  rw [View.read_apply]
  show V m c main_v3 _ = V m c main_v3 _
  refine congrArg (V m c main_v3) (funext fun a => Fin.ext ?_)
  match a with
  | ⟨0, _⟩ => show win0_5.index t (0 : Fin 2) * 1 + 1 * (z 0).val = (z 0).val; omega
  | ⟨1, _⟩ => show win0_5.index t (1 : Fin 2) * 1536 + 1 * (z 1).val = (z 1).val; omega

theorem iblk6_eq (c : Dev nD) (t : Fin cfg0.N) : iblk m c 6 t = V m c main_v4 := by
  obtain ⟨e0, e1⟩ := idx6 t
  funext z
  unfold iblk
  rw [View.read_apply]
  show V m c main_v4 _ = V m c main_v4 _
  refine congrArg (V m c main_v4) (funext fun a => Fin.ext ?_)
  match a with
  | ⟨0, _⟩ => show win0_6.index t (0 : Fin 2) * 16 + 1 * (z 0).val = (z 0).val; omega
  | ⟨1, _⟩ => show win0_6.index t (1 : Fin 2) * 1 + 1 * (z 1).val = (z 1).val; omega

/-! ## The projected inputs of all batches -/

/-- The projected inputs of all sixteen batches: row `8 k + r` is row `r` of what the first phase computes from block `k`. -/
def giAll (sg : S16x64x512.Idx → Elt F .i32) (en : S16x512x1024.Idx → Elt F .f32) (wi : Vec F S1536x1024 .bf16) (bi : Vec F S1x1536 .f32) :
    S16x64x1536.Idx → Elt F .f32 :=
  fun y => giBlk (segBlk sg ((y 0).val / 8)) (encBlk en ((y 0).val / 8)) wi bi (ix3 ⟨(y 0).val % 8, Nat.mod_lt _ (by decide)⟩ (y 1) (y 2))

/-- Storing what point `k` computes extends the rows that are the projected inputs by eight. -/
theorem put_block (sg : S16x64x512.Idx → Elt F .i32) (en : S16x512x1024.Idx → Elt F .f32) (wi : Vec F S1536x1024 .bf16) (bi : Vec F S1x1536 .f32)
    (g : S16x64x1536.Idx → Elt F .f32) (k : ℕ) (off : Fin 3 → ℕ) (ho : off = ![8 * k, 0, 0])
    (hg : ∀ y, (y 0).val < 8 * k → g y = giAll sg en wi bi y) (y : S16x64x1536.Idx) (hy : (y 0).val < 8 * (k + 1)) :
    VecWindow.put g off S8x64x1536.size (giBlk (segBlk sg k) (encBlk en k) wi bi) y = giAll sg en wi bi y := by
  subst ho
  by_cases h : (y 0).val < 8 * k
  · refine (dif_neg fun hin => ?_).trans (hg y h)
    have : 8 * k ≤ (y 0).val := (hin 0).1
    omega
  · have hin : ∀ a, (![8 * k, 0, 0] : Fin 3 → ℕ) a ≤ (y a).val ∧ (y a).val < (![8 * k, 0, 0] : Fin 3 → ℕ) a + S8x64x1536.size a := fun a => by
      match a with
      | ⟨0, _⟩ => show 8 * k ≤ (y 0).val ∧ (y 0).val < 8 * k + 8; omega
      | ⟨1, _⟩ => exact ⟨Nat.zero_le _, by have := (y 1).isLt; show (y 1).val < 0 + 64; exact (Nat.zero_add 64).symm ▸ this⟩
      | ⟨2, _⟩ => exact ⟨Nat.zero_le _, by have := (y 2).isLt; show (y 2).val < 0 + 1536; exact (Nat.zero_add 1536).symm ▸ this⟩
    refine (dif_pos hin).trans ?_
    have hk : (y 0).val / 8 = k := by omega
    unfold giAll
    rw [hk]
    refine congrArg (giBlk (segBlk sg k) (encBlk en k) wi bi) (funext fun a => Fin.ext ?_)
    match a with
    | ⟨0, _⟩ => show (y 0).val - 8 * k = (y 0).val % 8; omega
    | ⟨1, _⟩ => show (y 1).val - 0 = (y 1).val; omega
    | ⟨2, _⟩ => show (y 2).val - 0 = (y 2).val; omega

end Cert.KernelIdeal.Hand

end
-- ==== Proof.Body.lean ====
/-
  The pipelined launch of the fused kernel: what the scratch arrays and the output's staging buffer hold from point to
  point, that the body keeps it, and what the launch leaves.
-/
module

public import proofs.«01_k».proof.Proof.Run
public import proofs.«01_k».proof.Proof.Blocks
public import Idealize.ShloMosaic.Lib.Pipeline.DatRel
public import Idealize.ShloMosaic.Lib.Pipeline.ArrRel

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.ShloMosaic.Pipeline (Dat RDat BodyObligationRel)
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! ## What the buffers hold -/

/-- The projected inputs of all batches, from the arrays as the region finds them. -/
def GI (c : Dev nD) : S16x64x1536.Idx → Elt F .f32 := giAll (V m c main_arg1) (V m c main_arg0) (V m c main_v0) (V m c main_v2)

/-- The hidden state before step `k`. -/
def HID (c : Dev nD) (k : ℕ) : Vec F S16x512 .f32 := hidSeq (GI m c) (V m c main_v1) (V m c main_v3) (V m c main_v4) k

/-- The whole output. -/
def OUT (c : Dev nD) : S16x64x512.Idx → Elt F .f32 := outAll (GI m c) (V m c main_v1) (V m c main_v3) (V m c main_v4)

/-- What is held in the scratch arrays before point `n`: in the first, the projected inputs of the batches of the points made so far;
    in the second, once the second phase has begun, the hidden state. -/
def scr (c : Dev nD) (n : ℕ) : sProp 𝕄 :=
  iprop((∃ g, ⌜∀ y : S16x64x1536.Idx, (y 0).val < 8 * min n 2 → g y = GI m c y⌝ ∗ owns (c : Thread nD τ) scG fullShare g)
    ∗ (∃ h, ⌜3 ≤ n → h = HID m c (4 * (n - 2))⌝ ∗ owns (c : Thread nD τ) scH fullShare h)
    ∗ ∃ r, prngReg c r)

/-- The one window of which only a predicate is kept: the output's. -/
def held : Fin 8 → Bool := fun w => decide (w = 7)

/-- After point `n` the first `4 (n - 1)` rows of the output's staging buffer are the output's. -/
def outOk (c : Dev nD) (n : ℕ) (X : S16x64x512.Idx → Elt F .f32) : Prop :=
  ∀ y : S16x64x512.Idx, (y 1).val < 4 * (n - 1) → X y = OUT m c y

def Rl (c : Dev nD) (w : Fin cfg0.W) (t : Fin cfg0.N) : ((cfg0.win w).block.Idx → Elt F (cfg0.win w).elt) → Prop :=
  match w with
  | ⟨7, _⟩ => fun X => outOk m c t.val X
  | _ => fun _ => True

/-- The proof data: inputs keep their blocks; the output's contents are not named; the scratch arrays as `scr` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => Pipeline.Dat.unnamed (cfg := cfg0) 7 t
  Φ t := scr m c t.val
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]

theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d
theorem before6 (c : Dev nD) (t : Fin cfg0.N) (d) : (dats m 0 c).before 6 t d = iblk m c 6 t := before0_6_of m (dats m 0 c) (A_eq m c 6) (after6 m c) t d

/-- Before a point of the second phase the output's staging buffer holds the rows computed by the points before it. -/
theorem found (c : Dev nD) (t : Fin cfg0.N) (ht : t.val ≠ 0) (Y : S16x64x512.Idx → Elt F .f32)
    (h : ((dats m 0 c).toRRel held (Rl m c)).Finds 7 t Y) : outOk m c (t.val - 1) Y := by
  have hlt : t.val < 18 := N_0 ▸ t.isLt
  rcases (RDat.finds_of_pos _ (w := 7) (t := t) ((cfg0.win 7).fetch_out rfl t) ht Y).mp h with hf | hl
  · have := (flush0_7 _).mp hf
    have e : (t.val - 1) % 18 = 17 := this
    omega
  · exact (dats m 0 c).toRRel_leaves (w := 7) rfl hl

/-! ## The body keeps it -/

/-- The input windows' staging buffers at their blocks. -/
def ins (c : Dev nD) (t : Fin cfg0.N) : sProp 𝕄 :=
  iprop(owns (c : Thread nD τ) (st0_0 t) fullShare (iblk m c 0 t) ∗ owns (c : Thread nD τ) (st0_1 t) fullShare (iblk m c 1 t)
    ∗ owns (c : Thread nD τ) (st0_2 t) fullShare (iblk m c 2 t) ∗ owns (c : Thread nD τ) (st0_3 t) fullShare (iblk m c 3 t)
    ∗ owns (c : Thread nD τ) (st0_4 t) fullShare (iblk m c 4 t) ∗ owns (c : Thread nD τ) (st0_5 t) fullShare (iblk m c 5 t)
    ∗ owns (c : Thread nD τ) (st0_6 t) fullShare (iblk m c 6 t))

/-- One point: the input windows kept, the scratch arrays advanced, the output's buffer advanced. -/
theorem point (c : Dev nD) (t : Fin cfg0.N) (Y : S16x64x512.Idx → Elt F .f32) (hY : t.val ≠ 0 → outOk m c (t.val - 1) Y) :
    iprop(scr m c t.val ∗ ins m c t ∗ owns (c : Thread nD τ) (st0_7 t) fullShare Y)
      ⊢ wp frame (wpE (defs₀ (F := F)) Variants.none c none) Set.univ (bodyAt0 t)
          (fun _ => iprop(scr m c (t.val + 1) ∗ ins m c t ∗ ∃ X, ⌜outOk m c t.val X⌝ ∗ owns (c : Thread nD τ) (st0_7 t) fullShare X)) := by
  have hc1 := cond1_iff t
  have hc2 := cond2_iff t
  have hc3 := cond3_iff t
  have hlt : t.val < 18 := N_0 ▸ t.isLt
  unfold scr ins
  iintro ⟨⟨⟨%g, %hg, HG⟩, ⟨%h, %hh, HH⟩, HR⟩, ⟨H0, H1, H2, H3, H4, H5, H6⟩, H7⟩
  rcases Nat.lt_or_ge t.val 2 with hA | hB
  · iapply (runA c (grid0.coords t) (st0_0 t) _ (st0_1 t) _ (st0_2 t) _ (st0_3 t) _ (st0_4 t) _ (st0_5 t) _ (st0_6 t) _ (st0_7 t) _
      (hc1.mpr hA) (fun e => absurd (hc2.mp e) (by omega)) (fun e => absurd (hc3.mp e) (by omega))
      (iblk m c 0 t) (iblk m c 1 t) (iblk m c 2 t) (iblk m c 4 t) g _)
    isplitl [H0]; · iexact H0
    isplitl [H1]; · iexact H1
    isplitl [H2]; · iexact H2
    isplitl [H4]; · iexact H4
    isplitl [HG]; · iexact HG
    iintro ⟨H0, H1, H2, H4, HG⟩
    isplitl [HG HH HR]
    · isplitl [HG]
      · iexists _; isplitr; swap; · iexact HG
        ipureintro
        intro y hy
        rw [iblk0_eq m c t hA, iblk1_eq m c t hA, iblk2_eq, iblk4_eq]
        exact put_block _ _ _ _ g t.val _ (off1_at t) (fun y hy => hg y (by omega)) y (by omega)
      isplitl [HH]
      · iexists h; isplitr; swap; · iexact HH
        ipureintro; intro h3; omega
      iexact HR
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    iexists Y; isplitr; swap; · iexact H7
    ipureintro; intro y hy; omega
  · have eg : g = GI m c := funext fun y => hg y (by have : (y 0).val < 16 := (y 0).isLt; omega)
    subst eg
    have hrows : outOk m c t.val (putRows (GI m c) (V m c main_v1) (V m c main_v3) (V m c main_v4) (4 * (t.val - 2)) Y) := fun y hy => by
      unfold putRows
      by_cases hr : 4 * (t.val - 2) ≤ (y 1).val ∧ (y 1).val < 4 * (t.val - 2) + 4
      · rw [if_pos hr]; rfl
      · rw [if_neg hr]; exact hY (by omega) y (by omega)
    by_cases h2 : t.val = 2
    · iapply (runB0 c (grid0.coords t) (st0_0 t) _ (st0_1 t) _ (st0_2 t) _ (st0_3 t) _ (st0_4 t) _ (st0_5 t) _ (st0_6 t) _ (st0_7 t) _
        (fun e => absurd (hc1.mp e) (by omega)) (hc2.mpr h2) (hc3.mpr hB)
        (fun j => by rw [off2_at t j hB, h2]) (fun j => by rw [off3_at t j hB, h2]) (fun j => by rw [stepNo_at t j hB, h2])
        (iblk m c 3 t) (iblk m c 5 t) (iblk m c 6 t) Y (GI m c) h _)
      isplitl [H3]; · iexact H3
      isplitl [H5]; · iexact H5
      isplitl [H6]; · iexact H6
      isplitl [H7]; · iexact H7
      isplitl [HG]; · iexact HG
      isplitl [HH]; · iexact HH
      iintro ⟨H3, H5, H6, H7, HG, HH⟩
      isplitl [HG HH HR]
      · isplitl [HG]
        · iexists _; isplitr; swap; · iexact HG
          ipureintro; intro y _; rfl
        isplitl [HH]
        · iexists _; isplitr; swap; · iexact HH
          ipureintro; intro _
          rw [iblk3_eq, iblk5_eq, iblk6_eq, h2]; rfl
        iexact HR
      isplitl [H0 H1 H2 H3 H4 H5 H6]
      · isplitl [H0]; · iexact H0
        isplitl [H1]; · iexact H1
        isplitl [H2]; · iexact H2
        isplitl [H3]; · iexact H3
        isplitl [H4]; · iexact H4
        isplitl [H5]; · iexact H5
        iexact H6
      iexists _; isplitr; swap; · iexact H7
      ipureintro
      rw [iblk3_eq, iblk5_eq, iblk6_eq]
      rw [h2] at hrows ⊢
      exact hrows
    · have eh := hh (by omega)
      subst eh
      rw [show HID m c (4 * (t.val - 2)) = hidSeq (GI m c) (iblk m c 3 t) (iblk m c 5 t) (iblk m c 6 t) (4 * (t.val - 2)) from by
        rw [iblk3_eq, iblk5_eq, iblk6_eq]; rfl]
      iapply (runB c (grid0.coords t) (st0_0 t) _ (st0_1 t) _ (st0_2 t) _ (st0_3 t) _ (st0_4 t) _ (st0_5 t) _ (st0_6 t) _ (st0_7 t) _
        (fun e => absurd (hc1.mp e) (by omega)) (fun e => absurd (hc2.mp e) h2) (hc3.mpr hB)
        (4 * (t.val - 2)) (fun j => off2_at t j hB) (fun j => off3_at t j hB) (fun j => stepNo_at t j hB)
        (iblk m c 3 t) (iblk m c 5 t) (iblk m c 6 t) Y (GI m c) _)
      isplitl [H3]; · iexact H3
      isplitl [H5]; · iexact H5
      isplitl [H6]; · iexact H6
      isplitl [H7]; · iexact H7
      isplitl [HG]; · iexact HG
      isplitl [HH]; · iexact HH
      iintro ⟨H3, H5, H6, H7, HG, HH⟩
      isplitl [HG HH HR]
      · isplitl [HG]
        · iexists _; isplitr; swap; · iexact HG
          ipureintro; intro y _; rfl
        isplitl [HH]
        · iexists _; isplitr; swap; · iexact HH
          ipureintro; intro _
          rw [iblk3_eq, iblk5_eq, iblk6_eq, show 4 * (t.val - 2) + 4 = 4 * (t.val + 1 - 2) by omega]; rfl
        iexact HR
      isplitl [H0 H1 H2 H3 H4 H5 H6]
      · isplitl [H0]; · iexact H0
        isplitl [H1]; · iexact H1
        isplitl [H2]; · iexact H2
        isplitl [H3]; · iexact H3
        isplitl [H4]; · iexact H4
        isplitl [H5]; · iexact H5
        iexact H6
      iexists _; isplitr; swap; · iexact H7
      ipureintro
      rw [iblk3_eq, iblk5_eq, iblk6_eq]
      exact hrows

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ Y, ⌜((dats m 0 c).toRRel held (Rl m c)).Finds 7 t Y⌝ ∗ owns (c : Thread nD τ) (st0_7 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ X, ⌜Rl m c 7 t X⌝ ∗ owns (c : Thread nD τ) (st0_7 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0, before1, before2, before3, before4, before5, before6]
  rw [after0, after1, after2, after3, after4, after5, after6,
    show (dats m 0 c).owesAt () t.succ = (dats m 0 c).owesAt () t.castSucc from rfl,
    show (dats m 0 c).Φ t.castSucc = scr m c t.val from rfl, show (dats m 0 c).Φ t.succ = scr m c (t.val + 1) from rfl]
  iintro ⟨HS, HO, ⟨%d0, H0⟩, ⟨%d1, H1⟩, ⟨%d2, H2⟩, ⟨%d3, H3⟩, ⟨%d4, H4⟩, ⟨%d5, H5⟩, ⟨%d6, H6⟩, ⟨%Y, %hY, H7⟩⟩
  iapply (wp_wand_r Idealize.ShloMosaic.frame (wpE (defs₀ (F := F)) Variants.none c none) Set.univ
    (Q := fun _ => iprop(scr m c (t.val + 1) ∗ ins m c t ∗ ∃ X, ⌜outOk m c t.val X⌝ ∗ owns (c : Thread nD τ) (st0_7 t) fullShare X)))
  isplitl [HS H0 H1 H2 H3 H4 H5 H6 H7]
  · iapply (point m c t Y (fun h => found m c t h Y hY))
    isplitl [HS]; · iexact HS
    isplitl [H0 H1 H2 H3 H4 H5 H6]
    · unfold ins
      isplitl [H0]; · iexact H0
      isplitl [H1]; · iexact H1
      isplitl [H2]; · iexact H2
      isplitl [H3]; · iexact H3
      isplitl [H4]; · iexact H4
      isplitl [H5]; · iexact H5
      iexact H6
    iexact H7
  unfold ins
  iintro %_ ⟨HS, ⟨H0, H1, H2, H3, H4, H5, H6⟩, H7⟩
  isplitl [HS]; · iexact HS
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row of the kernel is the body. -/
theorem defs₀_row (t : Fin cfg0.N) : defs₀ (F := F) .tc cfg0.body (cfg0.bodyArgs t (cfg0.slots t)) = bodyAt0 t := by
  unfold defs₀; rw [Defs.onTc_tc]

/-- The library's body obligation, the output's window held to its predicate. -/
theorem body_obligation (c : Dev nD) :
    BodyObligationRel (dats (F := F) m 0 c) (defs₀ (F := F)) Variants.none () Set.univ held (Rl m c) := fun t => by
  rw [bigSep_W0, bigSep_W0, defs₀_row]
  exact triple_restated (sound_body m c t) rfl .rfl fun _ => .rfl

/-! ## The launch -/

/-- Before the first point the scratch arrays hold anything. -/
theorem enter (c : Dev nD) : (Pipeline.ΦA spec0 c : sProp 𝕄) ⊢ (dats m 0 c).Φ 0 := by
  rw [show (dats m 0 c).Φ 0 = scr m c 0 from rfl]
  unfold Pipeline.ΦA scr
  rw [scopedRest0_eq]
  simp only [scG, scH, owns_whole]
  iintro ⟨⟨⟨%g, HG⟩, ⟨%h, HH⟩⟩, HR⟩
  isplitl [HG]
  · iexists g; isplitr; swap; · iexact HG
    ipureintro; intro y hy; omega
  isplitl [HH]
  · iexists h; isplitr; swap; · iexact HH
    ipureintro; intro h3; omega
  iexact HR

/-- After the last point what the scratch arrays hold is forgotten. -/
theorem leave (c : Dev nD) : (dats m 0 c).Φ (Fin.last cfg0.N) ⊢ (Pipeline.ΦA spec0 c : sProp 𝕄) := by
  rw [show (dats m 0 c).Φ (Fin.last cfg0.N) = scr m c cfg0.N from rfl]
  unfold Pipeline.ΦA scr
  rw [scopedRest0_eq]
  simp only [scG, scH, owns_whole]
  iintro ⟨⟨%g, -, HG⟩, ⟨%h, -, HH⟩, HR⟩
  isplitl [HG HH]
  · isplitl [HG]
    · iexists g; iexact HG
    iexists h; iexact HH
  iexact HR

set_option backward.isDefEq.respectTransparency.types false in
/-- From any memory with zero counters every weakly fair execution of @main on the TensorCores terminates, and at the end
    every array is as the proof data say and every counter is zero. -/
theorem run_main : θ_run defs (onTc (τ := τ) (main (F := F))) (s₀ m ρ)
    (fun r => RDat.FramePost (cfgs 0) (fun c => (dats m 0 c).toRRel held (Rl m c)) (V m) r ∧ r.2.sem = fun _ => 0) :=
  RDat.θ_run_frame_track (Q' := _) cfgs (0 : Fin 1) launch0 defs₀ Variants.none (fun c => (dats m 0 c).toRRel held (Rl m c)) m ρ main
    (hbody := fun c => (body_obligation m c).toRRel) (hshare := fun c => (dats m 0 c).share_full fun _ => rfl)
    (howed := fun _ _ => rfl) (V := V m) (hmain := hmain m Variants.none) (hA := A_eq m)
    (hin := enter m) (hout := leave m)

variable {m ρ}

/-- The output's window is written back once, whole, at the last point. -/
theorem whole7 : (cfg0.win 7).WholeAt ⟨17, by decide⟩ := by decide +kernel

section After

variable {r : PUnit × MemSt nD τ sig (Elt F)} (h : RDat.FramePost (cfgs 0) (fun c => (dats m 0 c).toRRel held (Rl m c)) (V m) r) (c : Dev nD)

include h

/-! ## What the arrays hold after the run -/

theorem final_arg0 : r.2.mem ((c : Thread nD τ).loc main_arg0) = m ((c : Thread nD τ).loc main_arg0) :=
  (RDat.FramePost.arr_in h c 1 rfl).trans (V_main_arg0 m c)
theorem final_arg1 : r.2.mem ((c : Thread nD τ).loc main_arg1) = m ((c : Thread nD τ).loc main_arg1) :=
  (RDat.FramePost.arr_in h c 0 rfl).trans (V_main_arg1 m c)
theorem final_arg2 : r.2.mem ((c : Thread nD τ).loc main_arg2) = m ((c : Thread nD τ).loc main_arg2) :=
  ((h c).2 main_arg2 (Pipeline.mem_restRefs_of main_arg2 (by decide) (by decide))).trans (V_main_arg2 m c)
theorem final_arg3 : r.2.mem ((c : Thread nD τ).loc main_arg3) = m ((c : Thread nD τ).loc main_arg3) :=
  ((h c).2 main_arg3 (Pipeline.mem_restRefs_of main_arg3 (by decide) (by decide))).trans (V_main_arg3 m c)
theorem final_arg4 : r.2.mem ((c : Thread nD τ).loc main_arg4) = m ((c : Thread nD τ).loc main_arg4) :=
  ((h c).2 main_arg4 (Pipeline.mem_restRefs_of main_arg4 (by decide) (by decide))).trans (V_main_arg4 m c)
theorem final_arg5 : r.2.mem ((c : Thread nD τ).loc main_arg5) = m ((c : Thread nD τ).loc main_arg5) :=
  ((h c).2 main_arg5 (Pipeline.mem_restRefs_of main_arg5 (by decide) (by decide))).trans (V_main_arg5 m c)
theorem final_arg6 : r.2.mem ((c : Thread nD τ).loc main_arg6) = m ((c : Thread nD τ).loc main_arg6) :=
  ((h c).2 main_arg6 (Pipeline.mem_restRefs_of main_arg6 (by decide) (by decide))).trans (V_main_arg6 m c)

/-- The result array holds the whole output. -/
theorem final_out : r.2.mem ((c : Thread nD τ).loc main_v5) = OUT m c := by
  obtain ⟨X, hX, hG⟩ := RDat.ArrAt.emb_eq_of_wholeAt ((h c).1 7) whole7
  have hX' : outOk m c 17 X := (dats m 0 c).toRRel_leaves (w := 7) rfl hX
  funext y
  have hy : (y 1).val < 64 := (y 1).isLt
  exact (hG y).trans (hX' y (by omega))

end After

/-- THE RUN: from any memory with zero counters every weakly fair execution of @main terminates; at the end the result holds the
    whole output, the arguments hold what they held, and every counter is zero. -/
theorem run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v5) = OUT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨final_out h.1 c, final_arg0 h.1 c, final_arg1 h.1 c, final_arg2 h.1 c, final_arg3 h.1 c,
    final_arg4 h.1 c, final_arg5 h.1 c, final_arg6 h.1 c⟩, h.2⟩) (run_main m ρ)

end Cert.KernelIdeal.Hand

end
-- ==== Proof.KernelRun.lean ====
/-
  The kernel as printed and the kernel read at the ideal instance are the same program (nothing was rewritten), so
  what the one's run leaves, at any reading of floats, is what the other's run leaves.
-/
module

public import proofs.«01_k».proof.Proof.Body
public import proofs.«01_k».proof.Proof.Gen.Kernel

@[expose] public section

noncomputable section

namespace Cert.Kernel.Hand

open Idealize.ShloMosaic Idealize.ShloMosaic.TcCoe Idealize.ShloMosaic.Tactic
open Idealize.SL Idealize.SL.Sem

variable {F : FTy → Type} [FloatOps F] [∀ e, Nonempty (Elt F e)]

/-- The two host functions are one, -/
theorem main_same : Cert.Kernel.main (F := F) = Cert.KernelIdeal.main (F := F) := by sl_kernel_rfl

/-- and so are the two kernels and their pipelines. -/
theorem defs_same : Cert.Kernel.defs (F := F) = Cert.KernelIdeal.defs (F := F) := by sl_kernel_rfl

open Cert.Kernel in
/-- From any memory with zero counters every weakly fair execution of the kernel's @main terminates; at the end the arguments hold
    what they held and every counter is zero. -/
theorem run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  rw [main_same, defs_same]
  exact (θ_run Cert.KernelIdeal.defs _ _).mono (fun _ h => ⟨fun c => (h.1 c).2, h.2⟩) (Cert.KernelIdeal.Hand.run m ρ)

end Cert.Kernel.Hand

end
-- ==== Proof.Cell.lean ====
/-
  One step of the masked GRU at the extended reals: the kernel's step and the reference's step agree, entry by entry,
  when their hidden states, projected inputs, recurrent weights, biases and group counts agree.
-/
module

public import proofs.«01_k».proof.Proof.Steps
public import proofs.«01_k».proof.Proof.Gen.ReferenceIdeal.Step
public import Idealize.ShloMosaic.Lib.Pointwise
public import Idealize.ShloMosaic.Lib.IdealHost

@[expose] public section

set_option maxRecDepth 16384

noncomputable section

namespace Cert.Equation

open Idealize.ShloMosaic
open Cert.KernelIdeal.Hand (newH outRow nextH)
open Cert.ReferenceIdeal.Step

/-- What one step of the kernel and one trip of the reference are given alike: the hidden state, the projected inputs
    of the step, the recurrent weights and bias, and the group counts. -/
structure Alike (j : ℕ) (s : State Ideal) (h : FVec Ideal Cert.KernelIdeal.S16x512 .f32) (g : FVec Ideal Cert.KernelIdeal.S16x1x1536 .f32)
    (w : FVec Ideal Cert.KernelIdeal.S1536x512 .bf16) (b : FVec Ideal Cert.KernelIdeal.S1x1536 .f32) (gc : IVec Cert.KernelIdeal.S16x1 32) : Prop where
  hid : ∀ (p : Fin 16) (q : Fin 512), h (ix2 p q) = s.main_v12_8 (ix2 p q)
  inp : ∀ (p : Fin 16) (q : Fin 1536), g (ix3 p (0 : Fin 1) q) = b10 j s (ix2 p q)
  wgt : ∀ (q : Fin 1536) (d : Fin 512), w (ix2 q d) = s.main_v12_4 (ix2 q d)
  bias : ∀ q : Fin 1536, b (ix2 (0 : Fin 1) q) = s.main_v12_5 (ix1 q)
  cnt : ∀ p : Fin 16, gc (ix2 p (0 : Fin 1)) = s.main_v12_6 (ix1 p)

variable {j : ℕ} {s : State Ideal} {h : FVec Ideal Cert.KernelIdeal.S16x512 .f32} {g : FVec Ideal Cert.KernelIdeal.S16x1x1536 .f32}
  {w : FVec Ideal Cert.KernelIdeal.S1536x512 .bf16} {b : FVec Ideal Cert.KernelIdeal.S1x1536 .f32} {gc : IVec Cert.KernelIdeal.S16x1 32}

/-- The new hidden states agree. -/
theorem new_eq (e : Alike j s h g w b gc) (p : Fin 16) (q : Fin 512) : newH (F := Ideal) h g w b (ix2 p q) = b48 (F := Ideal) j s (ix2 p q) := by
  have eh := e.hid
  have eg := e.inp
  have ew := e.wgt
  have eb := e.bias
  pointwise [newH, Cert.KernelIdeal.Gen.k0_pay20, b48, b47, b46, b45, b44, b43, b42, b41, b40, b39, b38, b37, b36, b35, b34, b33, b32,
    b31, b30, b29, b28, b27, b26, b25, b24, b23, b22, b21, b20, b19, b18, b17, b16, b15, b14, b13, b12, b11, eh, eg, ew, eb]
  rfl

/-- A trip's number, read as a signed word and held inside 0..63, is the trip's number. -/
theorem held : ∀ k : Fin 64, (min (max (BitVec.toInt (BitVec.ofNat 32 k.val)) 0) ((64 - 1 : ℕ) : ℤ)).toNat = k.val := by decide +kernel

/-- Where a trip reads or writes its row of a three-axis array: the trip's number on the first axis, 0 on the others. -/
abbrev rowStart (k : ℕ) : Fin 3 → ℤ := fun a => BitVec.toInt
  (![constantI Cert.ReferenceIdeal.S_ 32 (BitVec.ofNat 32 k), constantI Cert.ReferenceIdeal.S_ 32 0#32, constantI Cert.ReferenceIdeal.S_ 32 0#32] a
    (Shape.Idx.first Cert.ReferenceIdeal.Gen.h_S_))

/-- A trip's number, which the reference reads off a list of the numbers 0..63, is that number. -/
theorem step_number (k : Fin 64) (s : State Ideal) (i : Cert.ReferenceIdeal.S_.Idx) : b5 (F := Ideal) k.val s i = BitVec.ofNat 32 k.val := by
  pointwise [b5, b4, K_main_v10]
  exact congrArg (BitVec.ofNat 32) (held k)

/-- The states carried on agree. -/
theorem next_eq (k : Fin 64) (e : Alike k.val s h g w b gc) (p : Fin 16) (q : Fin 512) :
    nextH (F := Ideal) h (BitVec.ofNat 32 k.val) (newH h g w b) gc (ix2 p q) = b53 (F := Ideal) k.val s (ix2 p q) := by
  have en := new_eq e
  have eh := e.hid
  have ec := e.cnt
  have es := step_number k s
  pointwise [nextH, Cert.KernelIdeal.Gen.k0_pay5, Cert.KernelIdeal.Gen.k0_pay3, b53, b52, b51, b50, b49, en, eh, ec, es]

/-- The rows put out agree. -/
theorem out_eq (k : Fin 64) (e : Alike k.val s h g w b gc) (p : Fin 16) (q : Fin 512) :
    outRow (F := Ideal) (BitVec.ofNat 32 k.val) (newH h g w b) gc (ix3 p (0 : Fin 1) q) = b57 (F := Ideal) k.val s (ix2 p q) := by
  have en := new_eq e
  have ec := e.cnt
  have es := step_number k s
  pointwise [outRow, Cert.KernelIdeal.Gen.k0_pay4, Cert.KernelIdeal.Gen.k0_pay3, b57, b56, b55, b54, b51, b50, b49, en, ec, es]

/-- A trip puts its row into the outputs at its own number and leaves the others. -/
theorem outs_step (k : Fin 64) (s : State Ideal) (i : Fin 64) (p : Fin 16) (q : Fin 512) :
    b61 (F := Ideal) k.val s (ix3 i p q) = if i = k then b57 (F := Ideal) k.val s (ix2 p q) else s.main_v12_9 (ix3 i p q) := by
  have c0 : Host.clampedStart Cert.ReferenceIdeal.S64x16x512 Cert.ReferenceIdeal.S1x16x512 rfl (rowStart k.val) 0 = k.val := held k
  have c1 : Host.clampedStart Cert.ReferenceIdeal.S64x16x512 Cert.ReferenceIdeal.S1x16x512 rfl (rowStart k.val) 1 = 0 := rfl
  have c2 : Host.clampedStart Cert.ReferenceIdeal.S64x16x512 Cert.ReferenceIdeal.S1x16x512 rfl (rowStart k.val) 2 = 0 := rfl
  pointwise [b61, b60, b59, b58]
  simp only [c0, c1, c2, Nat.sub_zero, Fin.eta, Nat.zero_le, and_true]
  by_cases hik : i = k
  · subst hik
    rw [dif_pos (by omega), if_pos rfl]
  · rw [if_neg hik, dif_neg (fun hc => hik (Fin.ext (by omega)))]

/-- The projected inputs of a trip, read off the pooled inputs. -/
theorem inp_step (k : Fin 64) (s : State Ideal) (p : Fin 16) (q : Fin 1536) :
    b10 (F := Ideal) k.val s (ix2 p q) = (∑ d : Fin 1024, (s.main_v12_0 (ix3 k p d) : EReal) * (s.main_v12_2 (ix2 q d) : EReal)) + (s.main_v12_3 (ix1 q) : EReal) := by
  have c0 : Host.clampedStart Cert.ReferenceIdeal.S64x16x1024 Cert.ReferenceIdeal.S1x16x1024 rfl (rowStart k.val) 0 = k.val := held k
  have c1 : Host.clampedStart Cert.ReferenceIdeal.S64x16x1024 Cert.ReferenceIdeal.S1x16x1024 rfl (rowStart k.val) 1 = 0 := rfl
  have c2 : Host.clampedStart Cert.ReferenceIdeal.S64x16x1024 Cert.ReferenceIdeal.S1x16x1024 rfl (rowStart k.val) 2 = 0 := rfl
  pointwise [b10, b9, b8, b7, b6, b3, b2, b1, b0]
  simp only [c0, c1, c2, Nat.zero_add, Fin.eta]

end Cert.Equation

end
-- ==== Proof.Pool.lean ====
/-
  The first phase at the extended reals: what a block of the kernel's projected inputs holds at an entry, and what the
  reference's pooled inputs hold at an entry.
-/
module

public import proofs.«01_k».proof.Proof.Steps
public import proofs.«01_k».proof.Proof.Gen.ReferenceIdeal.Step
public import Idealize.ShloMosaic.Lib.Pointwise
public import Idealize.ShloMosaic.Lib.IdealHost

@[expose] public section

set_option maxRecDepth 16384

noncomputable section

namespace Cert.Equation

open Idealize.ShloMosaic
open Cert.KernelIdeal Cert.KernelIdeal.Gen Cert.KernelIdeal.Hand

/-! ## A block of projected inputs, from the pooled inputs of its eight batches -/

section Block

variable {F : FTy → Type} [FloatOps F]

/-- Batch `r` of a block of segments. -/
def segAt (x : S8x64x512.Idx → Elt F .i32) (r : Fin 8) : Vec F S1x64x512 .i32 := fun y => x (ix3 r (y 1) (y 2))

/-- Batch `r` of a block of encoder states. -/
def encAt (x : S8x512x1024.Idx → Elt F .f32) (r : Fin 8) : Vec F S1x512x1024 .f32 := fun y => x (ix3 r (y 1) (y 2))

/-- The box of segments loaded for batch `r` is that batch. -/
theorem segOf_eq (x : S8x64x512.Idx → Elt F .i32) (o : Fin 3 → ℕ) (r : Fin 8) (ho : o = ![r.val, 0, 0])
    (h : ∀ a, o a + S1x64x512.size a ≤ S8x64x512.size a) : segOf (F := F) x o h = segAt (F := F) x r := by
  subst ho
  funext y
  have hy : (y 0).val < 1 := (y 0).isLt
  refine congrArg x (funext fun a => Fin.ext ?_)
  match a with
  | ⟨0, _⟩ => show r.val + 1 * (y 0).val = r.val; omega
  | ⟨1, _⟩ => show 0 + 1 * (y 1).val = (y 1).val; omega
  | ⟨2, _⟩ => show 0 + 1 * (y 2).val = (y 2).val; omega

/-- The box of encoder states loaded for batch `r` is that batch. -/
theorem encOf_eq (x : S8x512x1024.Idx → Elt F .f32) (o : Fin 3 → ℕ) (r : Fin 8) (ho : o = ![r.val, 0, 0])
    (h : ∀ a, o a + S1x512x1024.size a ≤ S8x512x1024.size a) : encOf (F := F) x o h = encAt (F := F) x r := by
  subst ho
  funext y
  have hy : (y 0).val < 1 := (y 0).isLt
  refine congrArg x (funext fun a => Fin.ext ?_)
  match a with
  | ⟨0, _⟩ => show r.val + 1 * (y 0).val = r.val; omega
  | ⟨1, _⟩ => show 0 + 1 * (y 1).val = (y 1).val; omega
  | ⟨2, _⟩ => show 0 + 1 * (y 2).val = (y 2).val; omega

/-- Eight batches' pooled inputs, one under another. -/
def stack (p : Fin 8 → FVec F S64x1024 .f32) : FVec F S512x1024 .f32 :=
  concatenate S512x1024 0 [⟨S64x1024, p 0⟩, ⟨S64x1024, p 1⟩, ⟨S64x1024, p 2⟩, ⟨S64x1024, p 3⟩, ⟨S64x1024, p 4⟩, ⟨S64x1024, p 5⟩,
    ⟨S64x1024, p 6⟩, ⟨S64x1024, p 7⟩] concatenates_S64x1024_S64x1024_S64x1024_S64x1024_S64x1024_S64x1024_S64x1024_S64x1024_S512x1024_d0

/-- The input projection of eight batches' pooled inputs. -/
def project (p : FVec F S512x1024 .f32) (wi : Vec F S1536x1024 .bf16) (bi : Vec F S1x1536 .f32) : FVec F S8x64x1536 .f32 :=
  shapeCast S8x64x1536 (shapeCast S8x64x1536 (addf (matmul dot_S512x1024_S1536x1024_S512x1536_1_1_0_0_n_n none (truncf .bf16 p bitsLt_bf16_f32)
    (shapeCast S1536x1024 wi shapeCasts_S1536x1024_S1536x1024) (constant S512x1536 .f32 0x00000000#32))
    (broadcastTo S512x1536 (shapeCast S1x1536 bi shapeCasts_S1x1536_S1x1536) broadcasts_S1x1536_S512x1536)) shapeCasts_S512x1536_S8x64x1536)
    shapeCasts_S8x64x1536_S8x64x1536

/-- A block of projected inputs is the input projection of its eight batches' pooled inputs. -/
theorem giBlk_eq (sg : S8x64x512.Idx → Elt F .i32) (en : S8x512x1024.Idx → Elt F .f32) (wi : Vec F S1536x1024 .bf16) (bi : Vec F S1x1536 .f32) :
    giBlk sg en wi bi = project (stack fun r => k0_pay6 (segAt (F := F) sg r) (encAt en r)) wi bi := by
  unfold giBlk
  rw [segOf_eq sg ![0, 0, 0] 0 rfl, segOf_eq sg ![1, 0, 0] 1 rfl, segOf_eq sg ![2, 0, 0] 2 rfl, segOf_eq sg ![3, 0, 0] 3 rfl,
    segOf_eq sg ![4, 0, 0] 4 rfl, segOf_eq sg ![5, 0, 0] 5 rfl, segOf_eq sg ![6, 0, 0] 6 rfl, segOf_eq sg ![7, 0, 0] 7 rfl,
    encOf_eq en ![0, 0, 0] 0 rfl, encOf_eq en ![1, 0, 0] 1 rfl, encOf_eq en ![2, 0, 0] 2 rfl, encOf_eq en ![3, 0, 0] 3 rfl,
    encOf_eq en ![4, 0, 0] 4 rfl, encOf_eq en ![5, 0, 0] 5 rfl, encOf_eq en ![6, 0, 0] 6 rfl, encOf_eq en ![7, 0, 0] 7 rfl]
  rfl

end Block

/-- Row `64 r + k` of the stack is row `k` of batch `r`. -/
theorem stack_apply (p : Fin 8 → FVec Ideal S64x1024 .f32) (r : Fin 8) (k : Fin 64) (d : Fin 1024) (m : Fin 512) (hm : m.val = r.val * 64 + k.val) :
    stack p (ix2 m d) = p r (ix2 k d) := by
  have hp : ∀ (i : Fin 8) (k' : Fin 64), i.val = r.val → k'.val = k.val → p i (ix2 k' d) = p r (ix2 k d) := fun i k' hi hk => by
    rw [Fin.ext hi, Fin.ext hk]
  pointwise [stack]
  fin_vals r with hr
  all_goals
    repeat first | rw [dif_pos (by omega)] | rw [dif_neg (by omega)]
    exact hp _ _ hr.symm (by show _ = _; simp only; omega)

/-- An entry of the input projection. -/
theorem project_apply (p : FVec Ideal S512x1024 .f32) (wi : Vec Ideal S1536x1024 .bf16) (bi : Vec Ideal S1x1536 .f32) (r : Fin 8) (k : Fin 64) (q : Fin 1536) :
    project p wi bi (ix3 r k q) = (∑ d : Fin 1024, (p (ix2 ⟨r.val * 64 + k.val, by omega⟩ d) : EReal) * (wi (ix2 q d) : EReal)) + (bi (ix2 (0 : Fin 1) q) : EReal) := by
  pointwise [project]

/-- A pooled input of the kernel: the sum of the encoder states of the segment, times the reciprocal of one more than the segment's size. -/
theorem pool_apply (sg : Vec Ideal S1x64x512 .i32) (en : Vec Ideal S1x512x1024 .f32) (k : Fin 64) (d : Fin 1024) :
    k0_pay6 (F := Ideal) sg en (ix2 k d)
      = (∑ s : Fin 512, ((((sg (ix3 (0 : Fin 1) k s) : BitVec 32).toInt : ℝ) : EReal) * (en (ix3 (0 : Fin 1) s d) : EReal)))
        * Ideal.div 1 (((((Finset.univ : Finset (Fin 512)).fold IntOp.addi (0#32) fun s => sg (ix3 (0 : Fin 1) k s)).toInt : ℝ) : EReal) + 1) := by
  pointwise [k0_pay6]
  rfl

open Cert.ReferenceIdeal.Step in
/-- A pooled input of the reference: the sum of the encoder states, each weighted by the quotient of its indicator and one more than the
    sum of the indicators. -/
theorem ref_pool_apply (en : FVec Ideal Cert.ReferenceIdeal.S16x512x1024 .f32) (sg : IVec Cert.ReferenceIdeal.S16x64x512 32) (k : Fin 64) (b : Fin 16) (d : Fin 1024) :
    A_main_v9 (F := Ideal) en sg (ix3 k b d)
      = ∑ s : Fin 512, Ideal.div (((sg (ix3 b k s)).toInt : ℝ) : EReal) (∑ t : Fin 512, (((sg (ix3 b k t)).toInt : ℝ) : EReal) + 1) * (en (ix3 b s d) : EReal) := by
  pointwise [A_main_v9, A_main_v7, A_main_v6, A_main_v5, A_main_v4, A_main_v2, A_main_v1, A_main_v0, K_main_v3, K_main_cst_0, K_main_cst]
  rfl

/-! ## The projected inputs -/

/-- An entry of a block of projected inputs. -/
theorem giBlk_apply (sg : S8x64x512.Idx → Elt Ideal .i32) (en : S8x512x1024.Idx → Elt Ideal .f32) (wi : Vec Ideal S1536x1024 .bf16) (bi : Vec Ideal S1x1536 .f32)
    (r : Fin 8) (k : Fin 64) (q : Fin 1536) :
    giBlk sg en wi bi (ix3 r k q)
      = (∑ d : Fin 1024, (k0_pay6 (F := Ideal) (segAt (F := Ideal) sg r) (encAt en r) (ix2 k d) : EReal) * (wi (ix2 q d) : EReal)) + (bi (ix2 (0 : Fin 1) q) : EReal) := by
  rw [giBlk_eq, project_apply]
  refine Ideal.add_congr (Finset.sum_congr rfl fun d _ => Ideal.mul_congr ?_ rfl) rfl
  exact stack_apply _ r k d _ rfl

end Cert.Equation

end
-- ==== Proof.Mean.lean ====
/-
  The mean of the members of a segment, taken two ways over the extended reals: the sum of the members times the
  reciprocal of one more than their number, counted in words, and the sum of the members each weighted by the quotient
  of its indicator and one more than the sum of the indicators. They agree when the indicators are 0 or 1.
-/
module

public import Idealize.ShloMosaic.Lib.IdealHost
public import Idealize.ShloMosaic.Lib.IndicatorCount

@[expose] public section

noncomputable section

namespace Cert.Equation

open Idealize.ShloMosaic
open scoped BigOperators

/-- A factor that is not negative and finite goes through a sum. -/
theorem mul_sum_of_nonneg {ι : Type} (c : EReal) (h0 : 0 ≤ c) (ht : c ≠ ⊤) (s : Finset ι) (f : ι → EReal) :
    c * ∑ i ∈ s, f i = ∑ i ∈ s, c * f i := by
  classical
  induction s using Finset.induction_on with
  | empty => simp
  | insert a s ha ih => rw [Finset.sum_insert ha, Finset.sum_insert ha, EReal.left_distrib_of_nonneg_of_ne_top h0 ht, ih]

/-- The members of a segment, as the words that are one. -/
abbrev members {n : ℕ} (a : Fin n → BitVec 32) : Finset (Fin n) := Finset.univ.filter fun s => a s = 1#32

variable {n : ℕ} (hn : n ≤ 512) (a : Fin n → BitVec 32) (ha : ∀ s, a s = 0#32 ∨ a s = 1#32)

include ha in
/-- The sum in words of indicators is their number, as a word. -/
theorem word_sum : Finset.univ.fold IntOp.addi (0#32) a = BitVec.ofNat 32 (members a).card := by
  have e : a = fun s => ((a s).setWidth 1).setWidth 32 := funext fun s => by
    rcases ha s with h | h <;> rw [h] <;> rfl
  have hp : ∀ s, ((a s).setWidth 1 = 1#1) ↔ a s = 1#32 := fun s => by
    rcases ha s with h | h <;> rw [h] <;> decide
  conv_lhs => rw [e]
  rw [IndicatorCount.fold_addi_setWidth_eq_card]
  simp only [hp]

include ha hn in
/-- Read as a real, that word is the number of members. -/
theorem word_sum_real : (((Finset.univ.fold IntOp.addi (0#32) a).toInt : ℝ) : EReal) = (((members a).card : ℝ) : EReal) := by
  rw [word_sum a ha]
  have hc : (members a).card ≤ n := (Finset.card_le_univ _).trans (by simp)
  have : (BitVec.ofNat 32 (members a).card).toInt = ((members a).card : ℤ) := by
    rw [BitVec.toInt_eq_toNat_of_lt (by rw [BitVec.toNat_ofNat]; omega), BitVec.toNat_ofNat, Nat.mod_eq_of_lt (by omega)]
  rw [this, Int.cast_natCast]

include ha in
/-- The sum of the indicators, each read as a real, is the number of members. -/
theorem real_sum : ∑ s, (((a s).toInt : ℝ) : EReal) = (((members a).card : ℝ) : EReal) := by
  have e : ∀ s, (((a s).toInt : ℝ) : EReal) = if a s = 1#32 then (1 : EReal) else 0 := fun s => by
    rcases ha s with h | h <;> rw [h] <;> simp
  rw [Finset.sum_congr rfl fun s _ => e s, Finset.sum_boole]
  norm_cast

include ha hn in
/-- THE MEAN, taken the two ways. -/
theorem mean_eq (x : Fin n → EReal) :
    (∑ s, (((a s).toInt : ℝ) : EReal) * x s) * Ideal.div 1 ((((Finset.univ.fold IntOp.addi (0#32) a).toInt : ℝ) : EReal) + 1)
      = ∑ s, Ideal.div (((a s).toInt : ℝ) : EReal) (∑ t, (((a t).toInt : ℝ) : EReal) + 1) * x s := by
  rw [word_sum_real hn a ha, real_sum a ha]
  have hD : ((((members a).card : ℝ) : EReal) + 1) = ((((members a).card : ℝ) + 1 : ℝ) : EReal) := by norm_cast
  rw [hD]
  have hpos : (0 : ℝ) < ((members a).card : ℝ) + 1 := by positivity
  have hne : ((((members a).card : ℝ) + 1 : ℝ) : EReal) ≠ 0 := fun h => hpos.ne' (by exact_mod_cast h)
  unfold Ideal.div
  simp only [if_neg hne, one_mul]
  rw [← EReal.coe_inv, mul_comm, mul_sum_of_nonneg _ (by exact_mod_cast (inv_pos.mpr hpos).le) (EReal.coe_ne_top _)]
  refine Finset.sum_congr rfl fun s _ => ?_
  rw [← mul_assoc, mul_comm (((((members a).card : ℝ) + 1)⁻¹ : ℝ) : EReal)]

end Cert.Equation

end
-- ==== Proof.Equation.lean ====
/-
  The kernel's output array and the reference's result are one array over the extended reals, for arguments whose
  segments are 0 or 1: the projected inputs agree, so every step of the scan agrees, so the outputs do.
-/
module

public import proofs.«01_k».proof.Proof.Blocks
public import proofs.«01_k».proof.Proof.Cell
public import proofs.«01_k».proof.Proof.Pool
public import proofs.«01_k».proof.Proof.Mean

@[expose] public section

set_option maxRecDepth 16384

noncomputable section

namespace Cert.Equation

open Idealize.ShloMosaic
open Cert.KernelIdeal Cert.KernelIdeal.Hand
open Cert.ReferenceIdeal.Step

/-- The arguments: encoder states, segments, group counts, input and recurrent weights and their biases. -/
structure Args where
  en : FVec Ideal S16x512x1024 .f32
  sg : IVec S16x64x512 32
  gc : IVec S16 32
  wi : FVec Ideal S1536x1024 .f32
  wh : FVec Ideal S1536x512 .f32
  bi : FVec Ideal S1536 .f32
  bh : FVec Ideal S1536 .f32

variable (A : Args)

/-! ## The reference's states -/

/-- The reference's state before trip `n`. -/
def refSeq : ℕ → State Ideal
  | 0 => init A.wi A.bi A.wh A.bh A.gc A.en A.sg
  | n + 1 => step n (refSeq n)

/-- No trip changes the loop's constants: the pooled inputs, the weights, the biases and the group counts. -/
theorem refSeq_consts : ∀ n, (refSeq A n).main_v12_0 = A_main_v9 A.en A.sg ∧ (refSeq A n).main_v12_2 = A.wi ∧ (refSeq A n).main_v12_3 = A.bi
    ∧ (refSeq A n).main_v12_4 = A.wh ∧ (refSeq A n).main_v12_5 = A.bh ∧ (refSeq A n).main_v12_6 = A.gc
  | 0 => ⟨rfl, rfl, rfl, rfl, rfl, rfl⟩
  | n + 1 => refSeq_consts n

/-! ## What the kernel is given -/

/-- The kernel's operands, prepared from the arguments: the same numbers in the shapes the kernel wants. -/
structure Prepared (wi : FVec Ideal S1536x1024 .bf16) (wh : FVec Ideal S1536x512 .bf16) (bi bh : FVec Ideal S1x1536 .f32) (gc : IVec S16x1 32) : Prop where
  wi : ∀ (q : Fin 1536) (d : Fin 1024), wi (ix2 q d) = A.wi (ix2 q d)
  wh : ∀ (q : Fin 1536) (d : Fin 512), wh (ix2 q d) = A.wh (ix2 q d)
  bi : ∀ q : Fin 1536, bi (ix2 (0 : Fin 1) q) = A.bi (ix1 q)
  bh : ∀ q : Fin 1536, bh (ix2 (0 : Fin 1) q) = A.bh (ix1 q)
  gc : ∀ p : Fin 16, gc (ix2 p (0 : Fin 1)) = A.gc (ix1 p)

variable {A} {wi : FVec Ideal S1536x1024 .bf16} {wh : FVec Ideal S1536x512 .bf16} {bi bh : FVec Ideal S1x1536 .f32} {gc : IVec S16x1 32}
  (P : Prepared A wi wh bi bh gc) (hb : ∀ (b : Fin 16) (k : Fin 64) (s : Fin 512), A.sg (ix3 b k s) = 0#32 ∨ A.sg (ix3 b k s) = 1#32)

/-! ## The projected inputs -/

/-- Batch `b` is batch `b mod 8` of block `b / 8`, of the segments -/
theorem seg_entry (sg : IVec S16x64x512 32) (b : Fin 16) (k : Fin 64) (s : Fin 512) :
    segAt (F := Ideal) (segBlk (F := Ideal) sg (b.val / 8)) ⟨b.val % 8, Nat.mod_lt _ (by decide)⟩ (ix3 (0 : Fin 1) k s) = sg (ix3 b k s) := by
  refine congrArg sg (funext fun a => Fin.ext ?_)
  match a with
  | ⟨0, _⟩ => show (8 * (b.val / 8) + b.val % 8) % 16 = b.val; omega
  | ⟨1, _⟩ => rfl
  | ⟨2, _⟩ => rfl

/-- and of the encoder states. -/
theorem enc_entry (en : FVec Ideal S16x512x1024 .f32) (b : Fin 16) (s : Fin 512) (d : Fin 1024) :
    encAt (F := Ideal) (encBlk (F := Ideal) en (b.val / 8)) ⟨b.val % 8, Nat.mod_lt _ (by decide)⟩ (ix3 (0 : Fin 1) s d) = en (ix3 b s d) := by
  refine congrArg en (funext fun a => Fin.ext ?_)
  match a with
  | ⟨0, _⟩ => show (8 * (b.val / 8) + b.val % 8) % 16 = b.val; omega
  | ⟨1, _⟩ => rfl
  | ⟨2, _⟩ => rfl

include hb in
/-- The pooled inputs agree. -/
theorem pool_eq (b : Fin 16) (k : Fin 64) (d : Fin 1024) :
    Cert.KernelIdeal.Gen.k0_pay6 (F := Ideal) (segAt (F := Ideal) (segBlk (F := Ideal) A.sg (b.val / 8)) ⟨b.val % 8, Nat.mod_lt _ (by decide)⟩)
      (encAt (F := Ideal) (encBlk (F := Ideal) A.en (b.val / 8)) ⟨b.val % 8, Nat.mod_lt _ (by decide)⟩) (ix2 k d)
      = A_main_v9 (F := Ideal) A.en A.sg (ix3 k b d) := by
  rw [pool_apply, ref_pool_apply]
  simp only [seg_entry, enc_entry]
  exact mean_eq (le_refl 512) (fun s => A.sg (ix3 b k s)) (fun s => hb b k s) (fun s => A.en (ix3 b s d))

include hb P in
/-- The projected inputs agree: the kernel's row `k`, and what the reference's trip `k` projects. -/
theorem gi_eq (k : Fin 64) (b : Fin 16) (q : Fin 1536) :
    giRow (F := Ideal) (giAll A.sg A.en wi bi) k.val (ix3 b (0 : Fin 1) q) = b10 (F := Ideal) k.val (refSeq A k.val) (ix2 b q) := by
  obtain ⟨e0, e2, e3, -, -, -⟩ := refSeq_consts A k.val
  rw [inp_step, e0, e2, e3]
  have hk : (⟨k.val % 64, Nat.mod_lt _ (by decide)⟩ : Fin 64) = k := Fin.ext (Nat.mod_eq_of_lt k.isLt)
  have hl : giRow (F := Ideal) (giAll A.sg A.en wi bi) k.val (ix3 b (0 : Fin 1) q)
      = giBlk (F := Ideal) (segBlk (F := Ideal) A.sg (b.val / 8)) (encBlk (F := Ideal) A.en (b.val / 8)) wi bi
        (ix3 (⟨b.val % 8, Nat.mod_lt _ (by decide)⟩ : Fin 8) (⟨k.val % 64, Nat.mod_lt _ (by decide)⟩ : Fin 64) q) := by
    refine congrArg (giBlk (F := Ideal) (segBlk (F := Ideal) A.sg (b.val / 8)) (encBlk (F := Ideal) A.en (b.val / 8)) wi bi) (funext fun a => ?_)
    match a with
    | ⟨0, _⟩ => rfl
    | ⟨1, _⟩ => rfl
    | ⟨2, _⟩ => rfl
  rw [hl, hk, giBlk_apply, P.bi]
  refine Ideal.add_congr (Finset.sum_congr rfl fun d _ => Ideal.mul_congr ?_ (P.wi q d)) rfl
  exact pool_eq hb b k d

/-! ## The scan -/

/-- The kernel's hidden state before step `n`, over these operands. -/
abbrev hid (A : Args) (wi : FVec Ideal S1536x1024 .bf16) (wh : FVec Ideal S1536x512 .bf16) (bi bh : FVec Ideal S1x1536 .f32) (gc : IVec S16x1 32) (n : ℕ) :
    FVec Ideal S16x512 .f32 := hidSeq (F := Ideal) (giAll A.sg A.en wi bi) wh bh gc n

include hb P in
/-- A step and a trip of the same number are given alike, if their hidden states agree. -/
theorem alike (k : Fin 64) (hh : ∀ (p : Fin 16) (q : Fin 512), hid A wi wh bi bh gc k.val (ix2 p q) = (refSeq A k.val).main_v12_8 (ix2 p q)) :
    Alike k.val (refSeq A k.val) (hid A wi wh bi bh gc k.val) (giRow (F := Ideal) (giAll A.sg A.en wi bi) k.val) wh bh gc := by
  obtain ⟨-, -, -, e4, e5, e6⟩ := refSeq_consts A k.val
  exact ⟨hh, fun p q => gi_eq P hb k p q, fun q d => by rw [e4]; exact P.wh q d, fun q => by rw [e5]; exact P.bh q, fun p => by rw [e6]; exact P.gc p⟩

include hb P in
/-- The hidden states agree before every step. -/
theorem hid_eq : ∀ n, n ≤ 64 → ∀ (p : Fin 16) (q : Fin 512), hid A wi wh bi bh gc n (ix2 p q) = (refSeq A n).main_v12_8 (ix2 p q)
  | 0, _, p, q => by
    show Cert.KernelIdeal.Gen.k0_pay2 (F := Ideal) (ix2 p q) = K_main_v8 (F := Ideal) (ix2 p q)
    pointwise [Cert.KernelIdeal.Gen.k0_pay2, K_main_v8, K_main_cst_1]
  | n + 1, hn, p, q => next_eq ⟨n, hn⟩ (alike P hb ⟨n, hn⟩ (hid_eq n (by omega))) p q

include hb P in
/-- The rows put out agree. -/
theorem row_eq (k : Fin 64) (p : Fin 16) (q : Fin 512) :
    outSeq (F := Ideal) (giAll A.sg A.en wi bi) wh bh gc k.val (ix3 p (0 : Fin 1) q) = b57 (F := Ideal) k.val (refSeq A k.val) (ix2 p q) :=
  out_eq k (alike P hb k (hid_eq P hb k.val k.isLt.le)) p q

/-- After `n` trips the outputs hold the rows of the trips made. -/
theorem outs_eq (A : Args) : ∀ n, n ≤ 64 → ∀ (i : Fin 64) (p : Fin 16) (q : Fin 512), i.val < n →
    (refSeq A n).main_v12_9 (ix3 i p q) = b57 (F := Ideal) i.val (refSeq A i.val) (ix2 p q)
  | 0, _, i, _, _, hi => absurd hi (Nat.not_lt_zero _)
  | n + 1, hn, i, p, q, hi => by
    refine (outs_step ⟨n, hn⟩ (refSeq A n) i p q).trans ?_
    by_cases h : i = ⟨n, hn⟩
    · rw [if_pos h, h]
    · rw [if_neg h]
      exact outs_eq A n (by omega) i p q (by have : i.val ≠ n := fun e => h (Fin.ext e); omega)

include hb P in
/-- THE EQUATION: the kernel's whole output is the reference's result. -/
theorem out_all : outAll (F := Ideal) (giAll A.sg A.en wi bi) wh bh gc = R_main_v13 (F := Ideal) (refSeq A 64) := by
  funext y
  idx_vars y
  have hr : R_main_v13 (F := Ideal) (refSeq A 64) (ix3 y0 y1 y2) = (refSeq A 64).main_v12_9 (ix3 y1 y0 y2) := by pointwise [R_main_v13]
  have hl : outAll (F := Ideal) (giAll A.sg A.en wi bi) wh bh gc (ix3 y0 y1 y2)
      = outSeq (F := Ideal) (giAll A.sg A.en wi bi) wh bh gc y1.val (ix3 y0 (0 : Fin 1) y2) := by
    refine congrArg (outSeq (F := Ideal) (giAll A.sg A.en wi bi) wh bh gc y1.val) (funext fun a => ?_)
    match a with
    | ⟨0, _⟩ => rfl
    | ⟨1, _⟩ => rfl
    | ⟨2, _⟩ => rfl
  rw [hl, hr, row_eq P hb, outs_eq A 64 (le_refl 64) y1 y0 y2 y1.isLt]

end Cert.Equation

end
-- ==== Proof.RefRun.lean ====
/-
  The reference's run over its step: the loop's carried buffers hold, before every trip, the state that `step` has reached, so
  the program leaves the last state's result.
-/
module

public import proofs.«01_k».proof.Proof.Gen.ReferenceIdeal.Run
public import proofs.«01_k».proof.Proof.Gen.ReferenceIdeal.Step

@[expose] public section

set_option maxRecDepth 16384

noncomputable section

namespace Cert.ReferenceIdeal.Hand

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step

variable {F : FTy → Type} [FloatOps F]

/-- The state that the loop's carried buffers hold. -/
def stateOf (V : Valuation τ sig (Elt F)) : State F where
  main_v12_8 := V (Proc.devRef .tc main_v12_8)
  main_v12_9 := V (Proc.devRef .tc main_v12_9)
  main_v12_0 := V (Proc.devRef .tc main_v12_0)
  main_v12_2 := V (Proc.devRef .tc main_v12_2)
  main_v12_3 := V (Proc.devRef .tc main_v12_3)
  main_v12_4 := V (Proc.devRef .tc main_v12_4)
  main_v12_5 := V (Proc.devRef .tc main_v12_5)
  main_v12_6 := V (Proc.devRef .tc main_v12_6)

/-- Before trip `j` the counter reads `j`, the list of group numbers is 0 to 63, and the other carried buffers hold `s`. -/
structure Before (V : Valuation τ sig (Elt F)) (s : State F) (j : ℕ) : Prop where
  state : stateOf V = s
  number : V (Proc.devRef .tc main_v12_7) = constantI S_ 32 (BitVec.ofNat 32 j)
  list : V (Proc.devRef .tc main_v12_1) = K_main_v10 (F := F)

variable {V : Valuation τ sig (Elt F)} {s : State F} {j : ℕ}

/-- The trip's input projection, -/
theorem input_eq (h : Before V s j) : res_main_while0b_v20 V = b10 j s := by
  obtain ⟨rfl, hn, hl⟩ := h
  unfold res_main_while0b_v20
  rw [hn]
  rfl

/-- its recurrent projection, -/
theorem recurrent_eq (h : Before V s j) : res_main_while0b_v25 V = b15 j s := by
  obtain ⟨rfl, hn, hl⟩ := h
  rfl

/-- its update gate, -/
theorem gate_eq (h : Before V s j) : res_main_while0b_v45 V = b39 j s := by
  unfold res_main_while0b_v45
  rw [input_eq h, recurrent_eq h]
  rfl

/-- the hidden state it computes, -/
theorem hidden_eq (h : Before V s j) : res_main_while0b_v53 V = b48 j s := by
  unfold res_main_while0b_v53
  rw [input_eq h, recurrent_eq h, gate_eq h]
  obtain ⟨rfl, hn, hl⟩ := h
  rfl

/-- and which batches still have a group at this trip. -/
theorem live_eq (h : Before V s j) : res_main_while0b_v56 V = b51 j s := by
  obtain ⟨rfl, hn, hl⟩ := h
  unfold res_main_while0b_v56
  rw [hn, hl]
  rfl

/-- The trip leaves `step`'s hidden state -/
theorem trip_hidden (h : Before V s j) : Value.step_main_v12_8 V = (step j s).main_v12_8 := by
  unfold Value.step_main_v12_8
  rw [hidden_eq h, live_eq h]
  obtain ⟨rfl, hn, hl⟩ := h
  rfl

/-- and `step`'s outputs. -/
theorem trip_outputs (h : Before V s j) : Value.step_main_v12_9 V = (step j s).main_v12_9 := by
  unfold Value.step_main_v12_9
  rw [hidden_eq h, live_eq h]
  obtain ⟨rfl, hn, hl⟩ := h
  rw [hn]
  rfl

/-- One trip leads from before trip `j` to before trip `j + 1`. -/
theorem trip (h : Before V s j) : Before (STEP V) (step j s) (j + 1) where
  state := by
    have e8 := (STEP_main_v12_8 V).trans (trip_hidden h)
    have e9 := (STEP_main_v12_9 V).trans (trip_outputs h)
    unfold stateOf
    rw [e8, e9, STEP_main_v12_0, STEP_main_v12_2, STEP_main_v12_3, STEP_main_v12_4, STEP_main_v12_5, STEP_main_v12_6]
    obtain ⟨rfl, hn, hl⟩ := h
    rfl
  number := by
    rw [STEP_main_v12_7, Value.step_main_v12_7, h.number]
    funext i
    exact (BitVec.ofNat_add j 1).symm
  list := (STEP_main_v12_1 V).trans h.list

variable (m : (ℓ : Loc nD τ sig) → Buf (Elt F) ℓ) (c : Dev nD)

/-- The state before the first trip, of a device's arguments. -/
abbrev start : State F :=
  init (m ((c.tc : Thread nD τ).loc main_arg3)) (m ((c.tc : Thread nD τ).loc main_arg5)) (m ((c.tc : Thread nD τ).loc main_arg4))
    (m ((c.tc : Thread nD τ).loc main_arg6)) (m ((c.tc : Thread nD τ).loc main_arg2)) (m ((c.tc : Thread nD τ).loc main_arg0))
    (m ((c.tc : Thread nD τ).loc main_arg1))

set_option maxRecDepth 65536 in
set_option maxHeartbeats 1000000 in
/-- The operations before the loop lead to before trip 0. -/
theorem entry : Before (entryContents preI m c) (start m c) 0 := by
  constructor
  · unfold stateOf
    simp only [entryContents, afterL_cons, afterL_nil]
    after_reads_simp
    rfl
  all_goals
    simp only [entryContents, afterL_cons, afterL_nil]
    after_reads_simp
    rfl

/-- Before trip `k` the loop holds state `k` of the sequence that `step` makes. -/
theorem before (it : ℕ → State F) (h0 : it 0 = start m c) (hs : ∀ n, it (n + 1) = step n (it n)) (k : ℕ) :
    Before (STEP^[k] (entryContents preI m c)) (it k) k := by
  induction k with
  | zero => rw [h0]; exact entry m c
  | succ k ih => rw [Function.iterate_succ_apply', hs k]; exact trip ih

/-- The result after the loop is the last state's. -/
theorem result_eq (h : Before V s j) : out_main_v13 V = R_main_v13 s := by
  obtain ⟨rfl, hn, hl⟩ := h
  rfl

/-- Every run of the reference ends with its result at state 64's result and its arguments unchanged. -/
theorem run (m : (ℓ : Loc nD τ sig) → Buf (Elt F) ℓ) (ρ : Dev nD → PrngReg) (it : Dev nD → ℕ → State F)
    (h0 : ∀ c, it c 0 = start m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v13) = R_main_v13 (it c 64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (result_eq (before m c (it c) (h0 c) (hs c) 64)), (h c).2⟩) (Value.run m ρ)

end Cert.ReferenceIdeal.Hand

end
-- ==== Proof.Values.lean ====
/-
  What the two runs leave, compared: the kernel's operands at the region's entry are its arguments in other shapes, the
  precondition says that every segment entry is 0 or 1, and so the kernel's result is the reference's.
-/
module

public import proofs.«01_k».proof.Defs
public import proofs.«01_k».proof.Proof.Body
public import proofs.«01_k».proof.Proof.Equation
public import proofs.«01_k».proof.Proof.RefRun
public import Idealize.ShloMosaic.Lib.Claim
public import Idealize.ShloMosaic.Lib.Quiescent

@[expose] public section

set_option maxRecDepth 16384

noncomputable section

namespace Cert.Equation

open Idealize.ShloMosaic Idealize.ShloMosaic.TcCoe Idealize.SL.Sem

/-- The predicate's one side condition: a scalar broadcasts to the segments' shape. -/
theorem pre_facts : Cert.Pre_segments_binary.Facts := ⟨by decide⟩

/-- A word that is at least 0 and at most 1, read signed, is 0 or 1. -/
theorem zero_or_one (x : BitVec 32) (h : Scalar.andi (Scalar.cmpi .sge x 0#32) (Scalar.cmpi .sle x 1#32) = 1#1) : x = 0#32 ∨ x = 1#32 := by
  have hx : (0#32).sle x = true ∧ x.sle 1#32 = true := by
    simp only [Scalar.andi, Scalar.cmpi, IntOp.andi, IntOp.cmpi] at h
    revert h
    cases (0#32).sle x <;> cases x.sle 1#32 <;> decide
  simp only [BitVec.sle_eq_decide, decide_eq_true_eq] at hx
  have h0 : (0#32 : BitVec 32).toInt = 0 := rfl
  have h1 : (1#32 : BitVec 32).toInt = 1 := rfl
  rw [h0, h1] at hx
  rcases (by omega : x.toInt = 0 ∨ x.toInt = 1) with e | e
  · exact .inl (BitVec.eq_of_toInt_eq (e.trans h0.symm))
  · exact .inr (BitVec.eq_of_toInt_eq (e.trans h1.symm))

section Kernel

open Cert.KernelIdeal Cert.KernelIdeal.Gen Cert.KernelIdeal.Hand

variable (m : (ℓ : Loc nD τ sig) → Buf (Elt Ideal) ℓ) (c : Dev nD)

/-- The arguments a device's memory holds. -/
def args : Args where
  en := m ((c.tc : Thread nD τ).loc main_arg0)
  sg := m ((c.tc : Thread nD τ).loc main_arg1)
  gc := m ((c.tc : Thread nD τ).loc main_arg2)
  wi := m ((c.tc : Thread nD τ).loc main_arg3)
  wh := m ((c.tc : Thread nD τ).loc main_arg4)
  bi := m ((c.tc : Thread nD τ).loc main_arg5)
  bh := m ((c.tc : Thread nD τ).loc main_arg6)

/-- The operands at the region's entry are prepared from the arguments. -/
theorem prepared : Prepared (args m c) (V m c main_v0) (V m c main_v1) (V m c main_v2) (V m c main_v3) (V m c main_v4) := by
  constructor
  all_goals
    intros
    entry_read
    pointwise [args]

/-- The precondition, entry by entry. -/
theorem binary (h : Cert.Pre_KernelIdeal_segments_binary (hPre_segments_binary := pre_facts) m) (b : Fin 16) (k : Fin 64) (s : Fin 512) :
    (args m c).sg (ix3 b k s) = 0#32 ∨ (args m c).sg (ix3 b k s) = 1#32 := by
  have e := congrFun (h c) (ix3 b k s)
  refine zero_or_one _ ?_
  pointwise [Cert.Pre_segments_binary.fn] at e
  exact e

/-- The kernel's output is the reference's last state's result. -/
theorem out_eq_ref (h : Cert.Pre_KernelIdeal_segments_binary (hPre_segments_binary := pre_facts) m) :
    OUT m c = Cert.ReferenceIdeal.Step.R_main_v13 (F := Ideal) (refSeq (args m c) 64) := by
  have e := out_all (prepared m c) (binary m c h)
  unfold OUT GI
  rw [V_main_arg0 m c, V_main_arg1 m c]
  exact e

end Kernel

end Cert.Equation

end
-- ==== Proof.lean ====
/-
  The claim: the kernel as printed and the two ideal programs run to the end and leave their arguments and their semaphores as
  they found them; the ideal kernel is the kernel; and the ideal kernel's result is the reference's whenever every entry of
  the segments is 0 or 1.
-/
module

public import proofs.«01_k».proof.Defs
public import proofs.«01_k».proof.Proof.KernelRun
public import proofs.«01_k».proof.Proof.Values
public import proofs.«01_k».proof.Proof.RefRun
public import proofs.«01_k».proof.Proof.Gen.Kernel
public import proofs.«01_k».proof.Proof.Gen.KernelIdeal
public import proofs.«01_k».proof.Proof.Gen.ReferenceIdeal
public import Idealize.ShloMosaic.Lib.Quiescent

@[expose] public section

set_option maxRecDepth 16384

noncomputable section

namespace Cert.Proof

open Idealize.ShloMosaic Idealize.ShloMosaic.TcCoe Idealize.SL.Sem
open Cert.Equation (pre_facts args refSeq out_eq_ref)

/-- The kernel as printed runs to the end, keeps its arguments, and ends with every semaphore at 0. -/
theorem kernel_quiescent : Cert.quiescent_Kernel (hKernel := Cert.Kernel.Gen.facts) :=
  fun m g _ => Cert.Kernel.Hand.run m g

/-- So does the ideal kernel. -/
theorem kernel_ideal_quiescent : Cert.quiescent_KernelIdeal (hKernelIdeal := Cert.KernelIdeal.Gen.facts) :=
  fun m g _ => (θ_run (Cert.KernelIdeal.defs (F := Ideal)) _ _).mono (fun _ h => ⟨fun c => (h.1 c).2, h.2⟩) (Cert.KernelIdeal.Hand.run m g)

/-- So does the ideal reference, which has no semaphore. -/
theorem reference_quiescent : Cert.quiescent_ReferenceIdeal (hReferenceIdeal := Cert.ReferenceIdeal.Gen.facts) :=
  fun m g _ => (θ_run (Cert.ReferenceIdeal.defs (F := Ideal)) _ _).mono
    (fun r h => ⟨fun c => (h c).2, sem_eq_zero_of_no_sems (by decide) r.2⟩) (Cert.ReferenceIdeal.Value.run (F := Ideal) m g)

/-- From arguments that agree and segments of 0s and 1s, the ideal kernel and the reference leave the same result. -/
theorem values_agree : Cert.algebraic_KernelIdeal_ReferenceIdeal_pre_segments_binary (hKernelIdeal := Cert.KernelIdeal.Gen.facts)
    (hReferenceIdeal := Cert.ReferenceIdeal.Gen.facts) (hPre_segments_binary := pre_facts) := by
  intro m g m' g' hpre hargs
  refine ⟨fun c => Cert.KernelIdeal.Hand.OUT m c, ?_, ?_⟩
  · exact (θ_run (Cert.KernelIdeal.defs (F := Ideal)) _ _).mono (fun _ h => h.1) (Cert.KernelIdeal.Hand.run m g)
  · refine (θ_run (Cert.ReferenceIdeal.defs (F := Ideal)) _ _).mono (fun r h c => ⟨(h c).1.trans (out_eq_ref m c hpre).symm, (h c).2⟩)
      (Cert.ReferenceIdeal.Hand.run m' g' (fun c => refSeq (args m c)) (fun c => ?_) (fun c n => rfl))
    obtain ⟨e0, e1, e2, e3, e4, e5, e6⟩ := hargs c
    unfold Cert.ReferenceIdeal.Hand.start
    rw [e0, e1, e2, e3, e4, e5, e6]
    rfl

/-- Everything that is claimed. -/
theorem claim : Cert.Claim :=
  ⟨Cert.Kernel.Gen.facts, Cert.KernelIdeal.Gen.facts, Cert.ReferenceIdeal.Gen.facts, pre_facts, kernel_quiescent, kernel_ideal_quiescent,
    fun m g _ => kernel_ideal_quiescent m g trivial, reference_quiescent, fun m g _ => reference_quiescent m g trivial, trivial, values_agree⟩

end Cert.Proof

end
